-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_seeds_nonneg [hPre_seeds_nonneg : Cert.Pre_seeds_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_seeds_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_seeds_nonneg [hPre_seeds_nonneg : Cert.Pre_seeds_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_seeds_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_seeds_nonneg [hKernelIdeal : Cert.KernelIdeal.Facts] [hPre_seeds_nonneg : Cert.Pre_seeds_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_seeds_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_seeds_nonneg [hReferenceIdeal : Cert.ReferenceIdeal.Facts] [hPre_seeds_nonneg : Cert.Pre_seeds_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_seeds_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_seeds_nonneg [hKernelIdeal : Cert.KernelIdeal.Facts] [hReferenceIdeal : Cert.ReferenceIdeal.Facts] [hPre_seeds_nonneg : Cert.Pre_seeds_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_seeds_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_seeds_nonneg : Cert.Pre_seeds_nonneg.Facts),
    quiescent_Kernel (hKernel := hKernel)
    ∧ quiescent_KernelIdeal (hKernelIdeal := hKernelIdeal)
    ∧ quiescent_KernelIdeal_pre_seeds_nonneg (hKernelIdeal := hKernelIdeal) (hPre_seeds_nonneg := hPre_seeds_nonneg)
    ∧ quiescent_ReferenceIdeal (hReferenceIdeal := hReferenceIdeal)
    ∧ quiescent_ReferenceIdeal_pre_seeds_nonneg (hReferenceIdeal := hReferenceIdeal) (hPre_seeds_nonneg := hPre_seeds_nonneg)
    ∧ preserves_Kernel_KernelIdeal
    ∧ algebraic_KernelIdeal_ReferenceIdeal_pre_seeds_nonneg (hKernelIdeal := hKernelIdeal) (hReferenceIdeal := hReferenceIdeal) (hPre_seeds_nonneg := hPre_seeds_nonneg)
-- ==== Pre_seeds_nonneg.lean ====
abbrev S100000x512 : Shape := ⟨2, ![100000, 512]⟩
abbrev S15000 : Shape := ⟨1, ![15000]⟩
abbrev S1x512 : Shape := ⟨2, ![1, 512]⟩
abbrev S_ : Shape := ⟨0, ![]⟩

class Facts : Prop where
  bcast_S_S15000 : S_.BroadcastsInDim S15000 (![] : Fin 0 → Fin S15000.rank)
  reducesTo_S15000_S_d0 : S15000.ReducesTo [0] S_
  h_S_ : 0 < S_.numel

variable [Facts]

def fn {F : FTy → Type} [FloatOps F] (main_arg0 : FVec F S100000x512 .f32) (main_arg1 : IVec S15000 32) (main_arg2 : FVec F S1x512 .f32) : IVec S_ 1 :=
  let main_c : IVec S_ 32 := constantI S_ 32 0#32
  let main_v0 : IVec S15000 32 := broadcastInDim S15000 ![] bcast_S_S15000 main_c
  let main_v1 : IVec S15000 1 := cmpi .sge main_arg1 main_v0
  let main_c_0 : IVec S_ 1 := constantI S_ 1 1#1
  let main_v2 : IVec S_ 1 := (fun x v => Host.reduce IntOp.andi x v reducesTo_S15000_S_d0 h_S_) main_v1 main_c_0
  main_v2
-- ==== Kernel.lean ====
abbrev S100000x512 : Shape := ⟨2, ![100000, 512]⟩
abbrev S15000 : Shape := ⟨1, ![15000]⟩
abbrev S1x512 : Shape := ⟨2, ![1, 512]⟩
abbrev S102400 : Shape := ⟨1, ![102400]⟩
abbrev S7504 : Shape := ⟨1, ![7504]⟩
abbrev S6400 : Shape := ⟨1, ![6400]⟩
abbrev S_ : Shape := ⟨0, ![]⟩
abbrev S16 : Shape := ⟨1, ![16]⟩
abbrev S4096x512 : Shape := ⟨2, ![4096, 512]⟩
abbrev S4096 : Shape := ⟨1, ![4096]⟩
abbrev S4096x1 : Shape := ⟨2, ![4096, 1]⟩

abbrev nBuf : Table → Nat
  | .hbm => 6
  | .local .tc .vmem => 7
  | .local .scVector .vmem => 2
  | _ => 0

abbrev bufTy : (tb : Table) → Fin (nBuf tb) → BufTy
  | .hbm, ⟨0, _⟩ => ⟨S100000x512, .f32⟩
  | .hbm, ⟨1, _⟩ => ⟨S15000, .i32⟩
  | .hbm, ⟨2, _⟩ => ⟨S1x512, .f32⟩
  | .hbm, ⟨3, _⟩ => ⟨S102400, .f32⟩
  | .hbm, ⟨4, _⟩ => ⟨S102400, .f32⟩
  | .hbm, ⟨5, _⟩ => ⟨S100000x512, .f32⟩
  | .local .tc .vmem, ⟨0, _⟩ => ⟨S4096x512, .f32⟩
  | .local .tc .vmem, ⟨1, _⟩ => ⟨S4096x512, .f32⟩
  | .local .tc .vmem, ⟨2, _⟩ => ⟨S102400, .f32⟩
  | .local .tc .vmem, ⟨3, _⟩ => ⟨S102400, .f32⟩
  | .local .tc .vmem, ⟨4, _⟩ => ⟨S1x512, .f32⟩
  | .local .tc .vmem, ⟨5, _⟩ => ⟨S4096x512, .f32⟩
  | .local .tc .vmem, ⟨6, _⟩ => ⟨S4096x512, .f32⟩
  | .local .scVector .vmem, ⟨0, _⟩ => ⟨S7504, .i32⟩
  | .local .scVector .vmem, ⟨1, _⟩ => ⟨S6400, .f32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_arg1_scv : Ref sig .scVector := ⟨.hbm, 1, rfl⟩
abbrev main_v0_0_scv : Ref sig .scVector := ⟨.hbm, 3, rfl⟩
abbrev main_v0_1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c7496_i32 : BitVec 32 := 7496#32
  let v1 : BitVec 32 := Scalar.muli arg0 c7496_i32
  v1
def k0_off1 (i : grid0.Coords) : Fin 1 → Nat :=
  let arg0 : BitVec 32 := BitVec.ofNat 32 (i 0).val
  let c7496_i32 : BitVec 32 := 7496#32
  let v1 : BitVec 32 := Scalar.muli arg0 c7496_i32
  let v2 : BitVec 32 := v1
  ![v2.toNat]
@[reducible] def k0_t1_loop : Scf.Loop 32 :=
  let c0_i32 : BitVec 32 := 0#32
  let c400_i32 : BitVec 32 := 400#32
  let v5 : BitVec 32 := Scalar.addi c0_i32 c400_i32
  let c1_i32 : BitVec 32 := 1#32
  ⟨c0_i32, v5, c1_i32⟩
def k0_off2 (k0_t1 : Fin k0_t1_loop.trips) : Fin 1 → Nat :=
  let c0_i32_9 : BitVec 32 := 0#32
  let c0_i32 : BitVec 32 := 0#32
  let c1_i32 : BitVec 32 := 1#32
  let arg7 : BitVec 32 := Scf.iv c0_i32 c1_i32 k0_t1
  let c16_i32 : BitVec 32 := 16#32
  let v13 : BitVec 32 := Scalar.muli arg7 c16_i32
  let v14 : BitVec 32 := Scalar.addi c0_i32_9 v13
  let v15 : Index := Scalar.indexCast v14
  ![v15.toNat]
@[reducible] def k0_t2_loop : Scf.Loop 32 :=
  let c0_i32_2 : BitVec 32 := 0#32
  let c469_i32 : BitVec 32 := 469#32
  let v6 : BitVec 32 := Scalar.addi c0_i32_2 c469_i32
  let c1_i32_3 : BitVec 32 := 1#32
  ⟨c0_i32_2, v6, c1_i32_3⟩
def k0_off3 (k0_t2 : Fin k0_t2_loop.trips) : Fin 1 → Nat :=
  let c0_i32_9 : BitVec 32 := 0#32
  let c0_i32_2 : BitVec 32 := 0#32
  let c1_i32_3 : BitVec 32 := 1#32
  let arg7 : BitVec 32 := Scf.iv c0_i32_2 c1_i32_3 k0_t2
  let c16_i32 : BitVec 32 := 16#32
  let v13 : BitVec 32 := Scalar.muli arg7 c16_i32
  let v14 : BitVec 32 := Scalar.addi c0_i32_9 v13
  let v15 : Index := Scalar.indexCast v14
  ![v15.toNat]

def k0_chk1 (v25 : IVec S16 32) : Prop :=
  (∀ a x, ((![v25] : Fin 1 → IVec S16 32) a x).toNat < S6400.size a)
theorem k0_idx1_inb : ∀ (v25 : IVec S16 32) (k0_hw1 : k0_chk1 v25), ∀ a x, ((![v25] : Fin 1 → IVec S16 32) a x).toNat < S6400.size a := fun v25 k0_hw1 => k0_hw1
def k0_cond1 (i : grid0.Coords) : BitVec 1 :=
  let arg0 : BitVec 32 := BitVec.ofNat 32 (i 0).val
  let c0_i32_5 : BitVec 32 := 0#32
  let v7 : BitVec 1 := Scalar.cmpi .eq arg0 c0_i32_5
  let v8 : BitVec 32 := Scalar.extui v7
  let c0_i32_6 : BitVec 32 := 0#32
  let v9 : BitVec 1 := Scalar.cmpi .ne v8 c0_i32_6
  v9

def k0_off4 (i : grid0.Coords) : Fin 1 → Nat :=
  let arg1 : BitVec 32 := BitVec.ofNat 32 (i 1).val
  let c6400_i32 : BitVec 32 := 6400#32
  let v0 : BitVec 32 := Scalar.muli arg1 c6400_i32
  ![v0.toNat]
def k0_cond2 (i : grid0.Coords) : BitVec 1 :=
  let arg0 : BitVec 32 := BitVec.ofNat 32 (i 0).val
  let c1_i32_7 : BitVec 32 := 1#32
  let v10 : BitVec 1 := Scalar.cmpi .eq arg0 c1_i32_7
  let v11 : BitVec 32 := Scalar.extui v10
  let c0_i32_8 : BitVec 32 := 0#32
  let v12 : BitVec 1 := Scalar.cmpi .ne v11 c0_i32_8
  v12

def k0_off5 (i : grid0.Coords) : Fin 1 → Nat :=
  let arg1 : BitVec 32 := BitVec.ofNat 32 (i 1).val
  let c6400_i32 : BitVec 32 := 6400#32
  let v0 : BitVec 32 := Scalar.muli arg1 c6400_i32
  ![v0.toNat]
abbrev grid1 : Pipeline.Grid := ⟨1, ![25], ![false]⟩

def k1_off1 (i : grid1.Coords) : Fin 1 → Nat :=
  let arg0 : BitVec 32 := BitVec.ofNat 32 (i 0).val
  let c4096_i32 : BitVec 32 := 4096#32
  let v0 : BitVec 32 := Scalar.muli arg0 c4096_i32
  let v1 : Index := Scalar.indexCast v0
  ![v1.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S102400 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S102400 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x512 : Shape := ⟨2, ![100000, 512]⟩
abbrev S15000 : Shape := ⟨1, ![15000]⟩
abbrev S1x512 : Shape := ⟨2, ![1, 512]⟩
abbrev S_ : Shape := ⟨0, ![]⟩
abbrev S100000 : Shape := ⟨1, ![100000]⟩
abbrev S15000x1 : Shape := ⟨2, ![15000, 1]⟩
abbrev S100000x1 : Shape := ⟨2, ![100000, 1]⟩

abbrev nBuf : Space → Nat
  | .hbm => 26
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S15000, .i32⟩
  | .hbm, ⟨2, _⟩ => ⟨S1x512, .f32⟩
  | .hbm, ⟨3, _⟩ => ⟨S_, .f32⟩
  | .hbm, ⟨4, _⟩ => ⟨S100000, .f32⟩
  | .hbm, ⟨5, _⟩ => ⟨S_, .i32⟩
  | .hbm, ⟨6, _⟩ => ⟨S15000, .i32⟩
  | .hbm, ⟨7, _⟩ => ⟨S15000, .i1⟩
  | .hbm, ⟨8, _⟩ => ⟨S_, .i32⟩
  | .hbm, ⟨9, _⟩ => ⟨S15000, .i32⟩
  | .hbm, ⟨10, _⟩ => ⟨S15000, .i32⟩
  | .hbm, ⟨11, _⟩ => ⟨S15000, .i32⟩
  | .hbm, ⟨12, _⟩ => ⟨S15000x1, .i32⟩
  | .hbm, ⟨13, _⟩ => ⟨S_, .f32⟩
  | .hbm, ⟨14, _⟩ => ⟨S15000, .f32⟩
  | .hbm, ⟨15, _⟩ => ⟨S100000, .f32⟩
  | .hbm, ⟨16, _⟩ => ⟨S100000x1, .f32⟩
  | .hbm, ⟨17, _⟩ => ⟨S100000x512, .f32⟩
  | .hbm, ⟨18, _⟩ => ⟨S100000x512, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x512, .f32⟩
  | .hbm, ⟨23, _⟩ => ⟨S100000x512, .f32⟩
  | .hbm, ⟨24, _⟩ => ⟨S100000x512, .f32⟩
  | .hbm, ⟨25, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Setup.lean ====
/-
  The program as the SparseCore launch theorem sees it: the configuration, the resource algebra (the handshakes'
  rounds, the rounds of the TensorCore pipeline's staging cells, the transfers' counters), the arrays, the two masks'
  values, and what each handshake carries.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Mask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] : (K (F := F)).nSub 0 = 16 := rfl
theorem nCore_zero [FloatOps F] : (K (F := F)).nCore 0 = 2 := rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## The arrays and the masks' values -/

abbrev eLoc (d : Dev nD) : Loc nD τ sig := (SparseCore.T d).loc main_arg0
abbrev sLoc (d : Dev nD) : Loc nD τ sig := (SparseCore.T d).loc main_arg1
abbrev tLoc (d : Dev nD) : Loc nD τ sig := (SparseCore.T d).loc main_arg2
abbrev aLoc (d : Dev nD) : Loc nD τ sig := (SparseCore.T d).loc main_v0_0
abbrev bLoc (d : Dev nD) : Loc nD τ sig := (SparseCore.T d).loc main_v0_1
abbrev oLoc (d : Dev nD) : Loc nD τ sig := (SparseCore.T d).loc main_v1

section Values
variable [FloatOps F]

abbrev one : F .f32 := Scalar.ofBits .f32 0x3F800000#32
abbrev zero : F .f32 := Scalar.ofBits .f32 0x00000000#32

/-- Some seed of the 7504 from `7496 * c` on names row `r`. -/
def Hit (s : S15000.Idx → BitVec 32) (c : ℕ) (r : ℕ) : Prop := ∃ k : S15000.Idx, 7496 * c ≤ (k 0).val ∧ (k 0).val < 7496 * c + 7504 ∧ (s k).toNat = r

open Classical in
/-- The mask SparseCore `c` computes: zero at the rows its seeds name, one elsewhere. -/
def maskVal (s : S15000.Idx → BitVec 32) (c : ℕ) : S102400.Idx → F .f32 := fun j => if Hit s c (j 0).val then zero else one

end Values

/-- The rows of a mask that tile `i` writes: the `i`-th sixteenth. -/
theorem mdiv : 16 ∣ S102400.size 0 := ⟨6400, rfl⟩
abbrev mrow (i : Fin 16) : Rect S102400 := Rect.part (s := S102400) (a₀ := 0) mdiv i

variable [FloatOps F] (m : (ℓ : Loc nD τ sig) → Buf (Elt F) ℓ) (ρ : Dev nD → PrngReg)

/-- Part `I` of the mask SparseCore `c` writes, at contents `f`. -/
def mPts (d : Dev nD) (c : Fin 2) (I : Finset S102400.Idx) (f : S102400.Idx → F .f32) : sProp 𝕄 :=
  match c with
  | 0 => aLoc d ↦[I]{fullShare} f
  | 1 => bLoc d ↦[I]{fullShare} f

instance mPts_storable (d : Dev nD) (c : Fin 2) (I : Finset S102400.Idx) (f : S102400.Idx → F .f32) :
    BI.Storable (upEmb : UEmb _ 𝕄) (mPts d c I f) := by
  match c with
  | 0 => exact (inferInstance : BI.Storable (upEmb : UEmb _ 𝕄) (aLoc d ↦[I]{fullShare} f))
  | 1 => exact (inferInstance : BI.Storable (upEmb : UEmb _ 𝕄) (bLoc d ↦[I]{fullShare} f))

/-- The share of the seeds a SparseCore reads, and a tile of it. -/
abbrev cq (c : Fin 2) : PosShare TreeShare := Transfers.dealOf fullShare Finset.univ c
abbrev tq (c : Fin 2) (i : Fin 16) : PosShare TreeShare := Transfers.dealOf (cq c) Finset.univ i
abbrev sPts (d : Dev nD) (q : PosShare TreeShare) : sProp 𝕄 := sLoc d ↦{q} m (sLoc d)

/-! ## What the handshakes carry -/

/-- Each SparseCore takes a share of the seeds and its mask array whole, and brings the array back at the mask's value;
    each tile takes a share of that share and its sixteenth of the array. -/
def P : (K (F := F)).Pay (nD := nD) (Val := Elt F) (Name := ℕ) (U := UU) where
  st := fun q d c => match q with
    | 0 => iprop(sPts m d (cq (Fin.cast nCore_zero c)) ∗ ∃ f, mPts d (Fin.cast nCore_zero c) Finset.univ f)
  dn := fun q d c => match q with
    | 0 => iprop(sPts m d (cq (Fin.cast nCore_zero c)) ∗ mPts d (Fin.cast nCore_zero c) Finset.univ (maskVal (m (sLoc d)) c.val))
  go := fun q d c i => match q with
    | 0 => iprop(sPts m d (tq (Fin.cast nCore_zero c) (Fin.cast nSub_zero i)) ∗ ∃ f, mPts d (Fin.cast nCore_zero c) (mrow (Fin.cast nSub_zero i)).set f)
  td := fun q d c i => match q with
    | 0 => iprop(sPts m d (tq (Fin.cast nCore_zero c) (Fin.cast nSub_zero i))
        ∗ mPts d (Fin.cast nCore_zero c) (mrow (Fin.cast nSub_zero i)).set (maskVal (m (sLoc d)) c.val))
  x := fun _ _ => iprop(emp)

instance P_storable : (P (F := F) m).IsStorable where
  st q d c := match q with
    | 0 => (inferInstance : BI.Storable (upEmb : UEmb _ 𝕄) iprop(sPts m d (cq (Fin.cast nCore_zero c)) ∗ ∃ f, mPts d (Fin.cast nCore_zero c) Finset.univ f))
  dn q d c := match q with
    | 0 => (inferInstance : BI.Storable (upEmb : UEmb _ 𝕄)
        iprop(sPts m d (cq (Fin.cast nCore_zero c)) ∗ mPts d (Fin.cast nCore_zero c) Finset.univ (maskVal (m (sLoc d)) c.val)))
  go q d c i := match q with
    | 0 => (inferInstance : BI.Storable (upEmb : UEmb _ 𝕄)
      iprop(sPts m d (tq (Fin.cast nCore_zero c) (Fin.cast nSub_zero i)) ∗ ∃ f, mPts d (Fin.cast nCore_zero c) (mrow (Fin.cast nSub_zero i)).set f))
  td q d c i := match q with
    | 0 => (inferInstance : BI.Storable (upEmb : UEmb _ 𝕄)
      iprop(sPts m d (tq (Fin.cast nCore_zero c) (Fin.cast nSub_zero i))
        ∗ mPts d (Fin.cast nCore_zero c) (mrow (Fin.cast nSub_zero i)).set (maskVal (m (sLoc d)) c.val)))

end Cert.Mask

end
-- ==== Proof.Values.lean ====
/-
  What the mask kernel's steps compute, as functions: the indexed store of one value (`storeIdx_const`), a tile's mask
  after the seeds below `n` (`tileMask`), and the step of sixteen seeds (`tileMask_step`).
-/
module

public import proofs.«01_k».proof.Proof.Setup

@[expose] public section

noncomputable section

namespace Cert.Mask

open Cert.KernelIdeal Cert.KernelIdeal.Gen
open Idealize.ShloMosaic

variable {F : FTy → Type}

open Classical in
/-- An indexed store whose lanes all hold `z` leaves `z` at the elements the set lanes name and the rest as it was. -/
theorem storeIdx_const [FloatOps F] {s : Shape} {e : EltTy} {d : Fin 1 → Nat} (f : Vec F s e) (idxs : Fin s.rank → IVec ⟨1, d⟩ 32) (v : Vec F ⟨1, d⟩ e)
    (z : Elt F e) (hv : ∀ x, v x = z) (mask : IVec ⟨1, d⟩ 1) (h : ∀ a x, (idxs a x).toNat < s.size a) (j : s.Idx) :
    storeIdx f idxs v mask false h j = if ∃ x, mask x = 1 ∧ ∀ a, (j a).val = (idxs a x).toNat then z else f j := by
  have key : ∀ (st : Vec F s e → Fin (d 0) → Vec F s e)
      (_ : ∀ g k, st g k j = if mask (Shape.ofLane k) = 1 ∧ ∀ a, (j a).val = (idxs a (Shape.ofLane k)).toNat then z else g j)
      (l : List (Fin (d 0))) (g : Vec F s e),
      l.foldl st g j = if ∃ k ∈ l, mask (Shape.ofLane k) = 1 ∧ ∀ a, (j a).val = (idxs a (Shape.ofLane k)).toNat then z else g j := by
    intro st hst l
    induction l with
    | nil => intro g; simp
    | cons k l ih =>
      intro g
      rw [List.foldl_cons, ih, hst]
      by_cases hl : ∃ k ∈ l, mask (Shape.ofLane k) = 1 ∧ ∀ a, (j a).val = (idxs a (Shape.ofLane k)).toNat
      · have hl' : ∃ k' ∈ k :: l, mask (Shape.ofLane k') = 1 ∧ ∀ a, (j a).val = (idxs a (Shape.ofLane k')).toNat :=
          let ⟨k', h1, h2⟩ := hl; ⟨k', List.mem_cons_of_mem _ h1, h2⟩
        rw [if_pos hl, if_pos hl']
      · rw [if_neg hl]
        refine if_congr ⟨fun hk => ⟨k, List.mem_cons_self, hk⟩, ?_⟩ rfl rfl
        rintro ⟨k', h1, h2⟩
        rcases List.mem_cons.mp h1 with e | h1
        · exact e ▸ h2
        · exact absurd ⟨k', h1, h2⟩ hl
  unfold storeIdx
  refine (key _ (fun g k => ?_) (List.finRange (d 0)) f).trans ?_
  · dsimp only
    by_cases hm : mask (Shape.ofLane k) = 1
    · rw [if_pos hm]
      by_cases hj : ∀ a, (j a).val = (idxs a (Shape.ofLane k)).toNat
      · exact (if_pos hj).trans ((hv _).trans (if_pos ⟨hm, hj⟩).symm)
      · exact (if_neg hj).trans (if_neg fun q => hj q.2).symm
    · rw [if_neg hm]; exact (if_neg fun q => hm q.1).symm
  refine if_congr ⟨?_, ?_⟩ rfl rfl
  · rintro ⟨k, -, hk⟩; exact ⟨_, hk⟩
  · rintro ⟨x, hx⟩
    have e : Shape.ofLane (x 0) = x := by funext a; obtain rfl := Fin.eq_zero a; rfl
    exact ⟨x 0, List.mem_finRange _, by rw [e]; exact hx⟩

/-- Sixteen words from the `n`-th on. -/
abbrev lane {N : ℕ} (n : ℕ) (h : n + 16 ≤ N) (x : S16.Idx) : (⟨1, ![N]⟩ : Shape).Idx :=
  fun a => ⟨n + (x 0).val, by obtain rfl := Fin.eq_zero a; have : (x 0).val < 16 := (x 0).isLt; show n + (x 0).val < N; omega⟩

/-- Lane `n` of sixteen. -/
abbrev lane16 (n : ℕ) (h : n < 16) : S16.Idx := fun a => ⟨n, by obtain rfl := Fin.eq_zero a; exact h⟩

section
variable [FloatOps F] (L : grid0.Coords)

theorem base_toNat : (Scalar.muli (BitVec.ofNat 32 (L 1).val) 6400#32).toNat = 6400 * (L 1).val := by
  have h : (L 1).val < 16 := (L 1).isLt
  unfold Scalar.muli IntOp.muli
  rw [BitVec.toNat_mul, BitVec.toNat_ofNat, show (6400#32 : BitVec 32).toNat = 6400 from rfl]
  omega

theorem pay3_toNat (v : Vec F S16 .i32) (x : S16.Idx) :
    (k0_pay3 L v x).toNat = (2 ^ 32 - 6400 * (L 1).val + (v x : BitVec 32).toNat) % 2 ^ 32 := by
  have e : k0_pay3 L v x = (v x : BitVec 32) - Scalar.muli (BitVec.ofNat 32 (L 1).val) 6400#32 := rfl
  rw [e, BitVec.toNat_sub, base_toNat]

theorem pay4_iff (v : Vec F S16 .i32) (x : S16.Idx) : k0_pay4 L v x = 1 ↔ (k0_pay3 L v x).toNat < 6400 := by
  have e : k0_pay4 L v x = IntOp.andi (IntOp.cmpi .sge (k0_pay3 L v x) 0#32) (IntOp.cmpi .slt (k0_pay3 L v x) 6400#32) := rfl
  rw [e]
  generalize k0_pay3 L v x = w
  have hw := w.isLt
  have h0 : (0#32 : BitVec 32).toInt = 0 := by decide
  have h1 : (6400#32 : BitVec 32).toInt = 6400 := by decide
  simp only [IntOp.andi, IntOp.cmpi, BitVec.sle_eq_decide, BitVec.slt_eq_decide, h0, h1, BitVec.toInt_eq_toNat_cond]
  by_cases hc : 2 * w.toNat < 2 ^ 32
  · simp only [if_pos hc]
    by_cases hd : w.toNat < 6400
    · have e1 : decide ((0 : Int) ≤ (w.toNat : Int)) = true := by simp
      have e2 : decide ((w.toNat : Int) < 6400) = true := by simp; omega
      simp [e1, e2, hd]
    · have e2 : decide ((w.toNat : Int) < 6400) = false := by simp; omega
      simp [e2, hd]
  · simp only [if_neg hc]
    have e1 : decide ((0 : Int) ≤ (w.toNat : Int) - ((2 ^ 32 : Nat) : Int)) = false := by simp; omega
    have hd : ¬ w.toNat < 6400 := by omega
    have e2 : decide ((w.toNat : Int) - ((2 ^ 32 : Nat) : Int) < 6400) = true := by simp; omega
    rw [e1]; simp [hd]

theorem pay5_of (v : Vec F S16 .i32) (x : S16.Idx) : k0_pay5 L v x = if k0_pay4 L v x = 1 then k0_pay3 L v x else 0#32 := by
  show Scalar.select _ _ _ = _
  unfold Scalar.select
  rfl

theorem chk (v : Vec F S16 .i32) : k0_chk1 (k0_pay5 L v) := by
  intro a x
  obtain rfl := Fin.eq_zero a
  show (k0_pay5 L v x).toNat < 6400
  rw [pay5_of]
  split
  · rename_i h; exact (pay4_iff L v x).mp h
  · decide

/-- Some seed below the `n`-th of the tile's copy names row `r`. -/
def HitIn (s : S7504.Idx → BitVec 32) (n : ℕ) (r : ℕ) : Prop := ∃ k : S7504.Idx, (k 0).val < n ∧ (s k).toNat = r

open Classical in
/-- The tile's mask after the seeds below the `n`-th. -/
def tileMask (s : S7504.Idx → BitVec 32) (n : ℕ) : S6400.Idx → F .f32 :=
  fun j => if HitIn s n (6400 * (L 1).val + (j 0).val) then zero else one

theorem tileMask_zero (s : S7504.Idx → BitVec 32) : tileMask (F := F) L s 0 = fun _ => one := by
  funext j; exact if_neg fun ⟨k, h, _⟩ => absurd h (Nat.not_lt_zero _)

open Classical in
theorem tileMask_step (s : S7504.Idx → BitVec 32) (n : ℕ) (hn : n + 16 ≤ 7504) (v : Vec F S16 .i32)
    (hv : ∀ x, v x = s (lane n hn x)) (h : ∀ a x, ((![k0_pay5 L v] : Fin 1 → IVec S16 32) a x).toNat < S6400.size a) :
    storeIdx (s := S6400) (e := .f32) (tileMask L s n) ![k0_pay5 L v] (k0_pay2 (F := F)) (k0_pay4 L v) false h = tileMask L s (n + 16) := by
  funext j
  have hj : (j 0).val < 6400 := (j 0).isLt
  have hL : (L 1).val < 16 := (L 1).isLt
  rw [storeIdx_const (F := F) (s := S6400) (e := .f32) (tileMask L s n) ![k0_pay5 L v] (k0_pay2 (F := F)) zero (fun _ => rfl) (k0_pay4 L v) h j]
  unfold tileMask
  have lanes : (∃ x : S16.Idx, k0_pay4 L v x = 1 ∧ ∀ a : Fin 1, (j a).val = ((![k0_pay5 L v] : Fin 1 → IVec S16 32) a x).toNat)
      ↔ ∃ k : S7504.Idx, (n ≤ (k 0).val ∧ (k 0).val < n + 16) ∧ (s k).toNat = 6400 * (L 1).val + (j 0).val := by
    constructor
    · rintro ⟨x, hm, hx⟩
      have hx0 : (j 0).val = (k0_pay5 L v x).toNat := hx 0
      have hxl : (x 0).val < 16 := (x 0).isLt
      rw [pay5_of, if_pos hm, pay3_toNat, hv] at hx0
      have := (s (lane n hn x)).isLt
      refine ⟨lane n hn x, ⟨Nat.le_add_right _ _, Nat.add_lt_add_left hxl n⟩, ?_⟩
      omega
    · rintro ⟨k, ⟨h1, h2⟩, hk⟩
      have hk16 : (k 0).val - n < 16 := by omega
      have e : lane n hn (lane16 ((k 0).val - n) hk16) = k := by
        funext a; obtain rfl := Fin.eq_zero a; apply Fin.ext; show n + ((k 0).val - n) = (k 0).val; omega
      refine ⟨lane16 ((k 0).val - n) hk16, ?_, fun a => ?_⟩
      · rw [pay4_iff, pay3_toNat, hv, e, hk]; omega
      · obtain rfl := Fin.eq_zero a
        show (j 0).val = (k0_pay5 L v _).toNat
        rw [pay5_of, if_pos, pay3_toNat, hv, e, hk]
        · omega
        · rw [pay4_iff, pay3_toNat, hv, e, hk]; omega
  by_cases hl : ∃ k : S7504.Idx, (n ≤ (k 0).val ∧ (k 0).val < n + 16) ∧ (s k).toNat = 6400 * (L 1).val + (j 0).val
  · rw [if_pos (lanes.mpr hl), if_pos]
    obtain ⟨k, hk, hs⟩ := hl
    exact ⟨k, hk.2, hs⟩
  · rw [if_neg (fun q => hl (lanes.mp q))]
    refine if_congr ⟨?_, ?_⟩ rfl rfl
    · rintro ⟨k, hk, hs⟩; exact ⟨k, by omega, hs⟩
    · rintro ⟨k, hk, hs⟩
      by_cases hkn : (k 0).val < n
      · exact ⟨k, hkn, hs⟩
      · exact absurd ⟨k, ⟨by omega, hk⟩, hs⟩ hl

open Classical in
/-- The tile's finished mask is its part of its SparseCore's. -/
theorem tileMask_eq (s : S15000.Idx → BitVec 32) (s' : S7504.Idx → BitVec 32) (e : S7504.Idx → S15000.Idx)
    (he : ∀ k, (e k 0).val = 7496 * (L 0).val + (k 0).val) (hs : ∀ k, s' k = s (e k)) (j : S6400.Idx) (i : S102400.Idx)
    (hi : (i 0).val = 6400 * (L 1).val + (j 0).val) : tileMask (F := F) L s' 7504 j = maskVal (F := F) s (L 0).val i := by
  unfold tileMask maskVal
  rw [← hi]
  have hL : (L 0).val < 2 := (L 0).isLt
  refine if_congr ⟨?_, ?_⟩ rfl rfl
  · rintro ⟨k, hk, hsk⟩
    exact ⟨e k, by rw [he]; omega, by rw [he]; omega, by rw [← hs]; exact hsk⟩
  · rintro ⟨k, h1, h2, hsk⟩
    have hk : ∃ k' : S7504.Idx, e k' = k := by
      refine ⟨fun a => ⟨(k 0).val - 7496 * (L 0).val, by obtain rfl := Fin.eq_zero a; show _ < 7504; omega⟩, ?_⟩
      funext a; obtain rfl := Fin.eq_zero a; apply Fin.ext; rw [he]; show 7496 * (L 0).val + ((k 0).val - 7496 * (L 0).val) = _; omega
    obtain ⟨k', rfl⟩ := hk
    rw [he] at h2
    exact ⟨k', by omega, by rw [hs]; exact hsk⟩

end

end Cert.Mask

end
-- ==== Proof.Tile.lean ====
/-
  The task of the mask kernel on one vector subcore, run at a symbolic SparseCore and tile: the fetch of its SparseCore's
  half of the seeds, the mask set to ones, the seeds scanned sixteen at a time, and the mask written to the tile's rows of
  its SparseCore's array, at `maskVal`.
-/
module

public import proofs.«01_k».proof.Proof.Values
public import Idealize.ShloMosaic.Lib.WritesUnit

@[expose] public section

noncomputable section

namespace Cert.Mask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S15000 EltTy.i32)
local notation "aV" => (Memref.whole Cert.KernelIdeal.main_v0_0_scv : Memref Cert.KernelIdeal.sig Kind.scVector Space.hbm Cert.KernelIdeal.S102400 EltTy.f32)
local notation "bV" => (Memref.whole Cert.KernelIdeal.main_v0_1_scv : Memref Cert.KernelIdeal.sig Kind.scVector Space.hbm Cert.KernelIdeal.S102400 EltTy.f32)
local notation "sV" => (Memref.whole Cert.KernelIdeal.cc0_scratch0 : Memref Cert.KernelIdeal.sig Kind.scVector Space.vmem Cert.KernelIdeal.S7504 EltTy.i32)
local notation "kV" => (Memref.whole Cert.KernelIdeal.cc0_scratch1 : Memref Cert.KernelIdeal.sig Kind.scVector Space.vmem Cert.KernelIdeal.S6400 EltTy.f32)

variable [FloatOps F] (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The tile's rows of a mask, in the kernel's own offsets. -/
abbrev arowK (L : grid0.Coords) (h : k0_cond1 L = 1#1) : Rect S102400 := Rect.unit (s := S102400) (k0_off4 L) S6400.size (k0_off4_inb L h)
abbrev browK (L : grid0.Coords) (h : k0_cond2 L = 1#1) : Rect S102400 := Rect.unit (s := S102400) (k0_off5 L) S6400.size (k0_off5_inb L h)
abbrev aRowK (L : grid0.Coords) (h : k0_cond1 L = 1#1) : Memref sig .scVector .hbm S6400 .f32 := (aV).slice (arowK L h) (fun _ => rfl)
abbrev bRowK (L : grid0.Coords) (h : k0_cond2 L = 1#1) : Memref sig .scVector .hbm S6400 .f32 := (bV).slice (browK L h) (fun _ => rfl)
abbrev irowK (L : grid0.Coords) : Rect S15000 := Rect.unit (s := S15000) (k0_off1 L) S7504.size (k0_off1_inb L)
abbrev iRowK (L : grid0.Coords) : Memref sig .scVector .hbm S7504 .i32 := (iV).slice (irowK L) (fun _ => rfl)

omit [FloatOps F] in
theorem arowK_eq (h : k0_cond1 L = 1#1) : arowK L h = mrow (jL L) := by
  unfold arowK mrow Rect.part Rect.block
  congr 1 <;> funext a
  · rw [k0_off4_eq]
    match a with
    | 0 => simp [Shape.partIx, Shape.partSize]; omega
  · match a with
    | 0 => simp [Shape.partSize]
omit [FloatOps F] in
theorem browK_eq (h : k0_cond2 L = 1#1) : browK L h = mrow (jL L) := by
  unfold browK mrow Rect.part Rect.block
  congr 1 <;> funext a
  · rw [k0_off5_eq]
    match a with
    | 0 => simp [Shape.partIx, Shape.partSize]; omega
  · match a with
    | 0 => simp [Shape.partSize]

omit [FloatOps F] in
theorem set_aRowK (h : k0_cond1 L = 1#1) : (aRowK L h).view.set = (mrow (jL L)).set := by
  show ((View.whole (main_v0_0_scv : Ref sig .scVector)).slice (arowK L h)).set = _
  rw [View.set_slice, arowK_eq]; exact Finset.map_refl
omit [FloatOps F] in
theorem set_bRowK (h : k0_cond2 L = 1#1) : (bRowK L h).view.set = (mrow (jL L)).set := by
  show ((View.whole (main_v0_1_scv : Ref sig .scVector)).slice (browK L h)).set = _
  rw [View.set_slice, browK_eq]; exact Finset.map_refl

omit [FloatOps F] in
theorem pts_aRowK (h : k0_cond1 L = 1#1) (f : Buf (Elt F) (aLoc d)) :
    ((aRowK L h).view.loc (V d (cV L) (jV L)) ↦[(aRowK L h).view.set]{fullShare} f : sProp 𝕄) = aLoc d ↦[(mrow (jL L)).set]{fullShare} f := by
  rw [set_aRowK]
omit [FloatOps F] in
theorem pts_bRowK (h : k0_cond2 L = 1#1) (f : Buf (Elt F) (bLoc d)) :
    ((bRowK L h).view.loc (V d (cV L) (jV L)) ↦[(bRowK L h).view.set]{fullShare} f : sProp 𝕄) = bLoc d ↦[(mrow (jL L)).set]{fullShare} f := by
  rw [set_bRowK]
omit [FloatOps F] in
theorem pts_iV (q : PosShare TreeShare) (f : Buf (Elt F) (sLoc d)) :
    ((iV).view.loc (V d (cV L) (jV L)) ↦{q} f : sProp 𝕄) = sLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_kV (f : Buf (Elt F) ((V d (cV L) (jV L)).loc cc0_scratch1)) :
    ((kV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The three regions' semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The two scratch buffers are among the subcore's own, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The half of the seeds the tile fetches. -/
abbrev seedsV : S7504.Idx → BitVec 32 := (iRowK L).view.read (Elt F) (m (sLoc d))

/-- The mask set to ones below the `n`-th trip. -/
def inv1 (n : ℕ) (_ : PUnit) : sProp 𝕄 :=
  iprop(∃ f : S6400.Idx → F .f32, ⌜∀ j : S6400.Idx, (j 0).val < 16 * n → f j = one⌝ ∗ (kV).view.loc (V d (cV L) (jV L)) ↦{fullShare} f)

/-- The seeds of the trips below the `n`-th scanned. -/
def inv2 (n : ℕ) (_ : PUnit) : sProp 𝕄 :=
  iprop(((sV).view.loc (V d (cV L) (jV L)) ↦{fullShare} (seedsV m d L))
    ∗ (kV).view.loc (V d (cV L) (jV L)) ↦{fullShare} (tileMask (F := F) L (seedsV m d L) (16 * n)))

omit [FloatOps F] in
theorem cond_iff : ∀ L : grid0.Coords, (k0_cond1 L = 1#1 ↔ (L 0).val = 0) ∧ (k0_cond2 L = 1#1 ↔ (L 0).val = 1) := by decide +kernel

/-- One trip of the ones: the sixteen words from `16 * n` on stored. -/
theorem inv1_step (n : Fin k0_t1_loop.trips) (f : S6400.Idx → F .f32) (hf : ∀ j : S6400.Idx, (j 0).val < 16 * n.val → f j = one)
    (j : S6400.Idx) (hj : (j 0).val < 16 * (n.val + 1)) :
    (kV).view.writes (Elt F) f [⟨Rect.unit (s := S6400) (k0_off2 n) S16.size (k0_off2_inb n), k0_pay1 (F := F)⟩] j = one := by
  have h := View.read_writes_cons_unit (Val := Elt F) (kV).view f (k0_off2_inb n) (k0_pay1 (F := F)) [] j (k0_off2_eq n)
  refine Eq.trans (show _ = _ from h) ?_
  split
  · rfl
  · rename_i hn
    refine hf j ?_
    by_contra hc
    exact hn fun a => by
      obtain rfl := Fin.eq_zero a
      show 16 * n.val ≤ (j 0).val ∧ (j 0).val < 16 * n.val + 16
      omega

theorem inv1_full (f : S6400.Idx → F .f32) (hf : ∀ j : S6400.Idx, (j 0).val < 16 * k0_t1_loop.trips → f j = one)
    (s : S7504.Idx → BitVec 32) : f = tileMask (F := F) L s (16 * 0) := by
  rw [Nat.mul_zero, tileMask_zero]
  funext j
  refine hf j ?_
  have h1 : (j 0).val < 6400 := (j 0).isLt
  have h2 : k0_t1_loop.trips = 400 := by decide
  rw [h2]; exact h1

omit [FloatOps F] in
theorem trips2 : k0_t2_loop.trips = 469 := by decide

omit [FloatOps F] in
theorem lane_read (n : Fin k0_t2_loop.trips) (s : S7504.Idx → BitVec 32) (h : 16 * n.val + 16 ≤ 7504) (x : S16.Idx) :
    ((sV).access (Rect.unit (s := S7504) (k0_off3 n) S16.size (k0_off3_inb n))).read (Elt F) s x = s (lane (16 * n.val) h x) := by
  show s _ = s _
  congr 1
  funext a
  obtain rfl := Fin.eq_zero a
  apply Fin.ext
  show k0_off3 n 0 + 1 * (x 0).val = 16 * n.val + (x 0).val
  rw [k0_off3_eq, Nat.one_mul]; rfl

omit [FloatOps F] in
theorem pts_kV_whole (f : Buf (Elt F) ((V d (cV L) (jV L)).loc cc0_scratch1)) :
    (((kV).access (.whole S6400)).loc (V d (cV L) (jV L)) ↦[((kV).access (.whole S6400)).set]{fullShare} f : sProp 𝕄)
      = (kV).view.loc (V d (cV L) (jV L)) ↦{fullShare} f := by
  rw [show ((kV).access (.whole S6400)).set = Finset.univ from Memref.set_access_whole (cc0_scratch1 : Ref sig .scVector)]

omit [FloatOps F] in
theorem seeds_landed (fs : Buf (Elt F) ((V d (cV L) (jV L)).loc cc0_scratch0)) :
    ((sV).view.loc (V d (cV L) (jV L)) ↦{fullShare} (View.write (Elt F) (sV).view fs (seedsV m d L) Finset.univ) : sProp 𝕄)
      = (sV).view.loc (V d (cV L) (jV L)) ↦{fullShare} (seedsV m d L) := by
  rw [show View.write (Elt F) (sV).view fs (seedsV m d L) Finset.univ = seedsV m d L from View.write_whole_univ _ _ _]

/-- One trip of the scan: the sixteen seeds from `16 * n` on marked. -/
theorem scan_step (n : Fin k0_t2_loop.trips) (v : Vec F S16 .i32)
    (hv : ∀ x, v x = seedsV m d L (lane (16 * n.val) (by have := n.isLt.trans_eq trips2; omega) x))
    (h : ∀ a x, ((![k0_pay5 L v] : Fin 1 → IVec S16 32) a x).toNat < S6400.size a) :
    (((kV).access (.whole S6400)).loc (V d (cV L) (jV L)) ↦[((kV).access (.whole S6400)).set]{fullShare}
        (((kV).access (.whole S6400)).write (Elt F) (tileMask (F := F) L (seedsV m d L) (16 * n.val))
          (storeIdx (s := S6400) (e := .f32) (((kV).access (.whole S6400)).read (Elt F) (tileMask (F := F) L (seedsV m d L) (16 * n.val)))
            ![k0_pay5 L v] (k0_pay2 (F := F)) (k0_pay4 L v) false h) Finset.univ) : sProp 𝕄)
      = (kV).view.loc (V d (cV L) (jV L)) ↦{fullShare} (tileMask (F := F) L (seedsV m d L) (16 * (n.val + 1))) := by
  rw [pts_kV_whole]
  have e : ((kV).access (.whole S6400)).read (Elt F) (tileMask (F := F) L (seedsV m d L) (16 * n.val)) = tileMask (F := F) L (seedsV m d L) (16 * n.val) :=
    Memref.read_access_whole (Elt F) (cc0_scratch1 : Ref sig .scVector) _
  rw [e, tileMask_step (F := F) L (seedsV m d L) (16 * n.val) _ v hv h]
  exact congrArg (fun f => ((kV).view.loc (V d (cV L) (jV L)) ↦{fullShare} f : sProp 𝕄)) (Memref.write_access_whole_univ (Elt F) (cc0_scratch1 : Ref sig .scVector) _ _)

omit [FloatOps F] in
theorem mPts_zero (h : (L 0).val = 0) (I : Finset S102400.Idx) (f : S102400.Idx → F .f32) :
    (mPts (F := F) d (cL L) I f : sProp 𝕄) = aLoc d ↦[I]{fullShare} f := by
  rw [show cL L = 0 from Fin.ext h]; rfl
omit [FloatOps F] in
theorem mPts_one (h : (L 0).val = 1) (I : Finset S102400.Idx) (f : S102400.Idx → F .f32) :
    (mPts (F := F) d (cL L) I f : sProp 𝕄) = bLoc d ↦[I]{fullShare} f := by
  rw [show cL L = 1 from Fin.ext h]; rfl

omit [FloatOps F] in
theorem seeds_at (k : S7504.Idx) : ((iRowK L).view.emb k 0).val = 7496 * (L 0).val + (k 0).val := by
  show k0_off1 L 0 + 1 * (k 0).val = _
  rw [k0_off1_eq, Nat.one_mul]; rfl

/-- The tile's rows of the mask, written from its scratch. -/
theorem a_landed (h : k0_cond1 L = 1#1) (fo : S102400.Idx → F .f32) :
    ((aRowK L h).view.loc (V d (cV L) (jV L)) ↦[(aRowK L h).view.set]{fullShare}
        ((aRowK L h).view.writes (Elt F) fo [⟨Rect.whole S6400, tileMask (F := F) L (seedsV m d L) (16 * k0_t2_loop.trips)⟩]) : sProp 𝕄)
      = aLoc d ↦[(mrow (jL L)).set]{fullShare} (maskVal (F := F) (m (sLoc d)) (L 0).val) := by
  rw [← pts_aRowK (F := F) d L h]
  refine pointsTo_congr fun i hi => ?_
  obtain ⟨j, -, rfl⟩ := Finset.mem_map.mp hi
  have e1 := congrFun (View.read_writes_whole (Val := Elt F) (aRowK L h).view fo (tileMask (F := F) L (seedsV m d L) (16 * k0_t2_loop.trips))) j
  rw [View.read_apply, cast_eq] at e1
  refine e1.trans ?_
  rw [trips2]
  refine tileMask_eq (F := F) L (m (sLoc d)) (seedsV m d L) (iRowK L).view.emb (seeds_at L) (fun _ => rfl) j _ ?_
  show k0_off4 L 0 + 1 * (j 0).val = _
  rw [k0_off4_eq, Nat.one_mul]; rfl

/-- The tile's rows of the mask, written from its scratch. -/
theorem b_landed (h : k0_cond2 L = 1#1) (fo : S102400.Idx → F .f32) :
    ((bRowK L h).view.loc (V d (cV L) (jV L)) ↦[(bRowK L h).view.set]{fullShare}
        ((bRowK L h).view.writes (Elt F) fo [⟨Rect.whole S6400, tileMask (F := F) L (seedsV m d L) (16 * k0_t2_loop.trips)⟩]) : sProp 𝕄)
      = bLoc d ↦[(mrow (jL L)).set]{fullShare} (maskVal (F := F) (m (sLoc d)) (L 0).val) := by
  rw [← pts_bRowK (F := F) d L h]
  refine pointsTo_congr fun i hi => ?_
  obtain ⟨j, -, rfl⟩ := Finset.mem_map.mp hi
  have e1 := congrFun (View.read_writes_whole (Val := Elt F) (bRowK L h).view fo (tileMask (F := F) L (seedsV m d L) (16 * k0_t2_loop.trips))) j
  rw [View.read_apply, cast_eq] at e1
  refine e1.trans ?_
  rw [trips2]
  refine tileMask_eq (F := F) L (m (sLoc d)) (seedsV m d L) (iRowK L).view.emb (seeds_at L) (fun _ => rfl) j _ ?_
  show k0_off5 L 0 + 1 * (j 0).val = _
  rw [k0_off5_eq, Nat.one_mul]; rfl

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp
        ∗ (sPts m d (tq (cL L) (jL L)) ∗ ∃ f, mPts d (cL L) (mrow (jL L)).set f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__mask_sc_body L iV (Memref.isWhole_whole _) aV (Memref.isWhole_whole _) bV (Memref.isWhole_whole _)
            sV (Memref.isWhole_whole _) kV (Memref.isWhole_whole _) cc0_scoped0 cc0_scoped1 cc0_scoped2)
          fun _ => iprop((sPts m d (tq (cL L) (jL L)) ∗ mPts d (cL L) (mrow (jL L)).set (maskVal (m (sLoc d)) (L 0).val))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__mask_sc_body_eq_skeleton]; unfold cc0__mask_sc_body_skel
  rw [(K (F := F)).scopedBufs_V hF d (cV L) (jV L), SparseCore.Cfg.scopedSems0_V (Val := Elt F) d (cV L) (jV L), ownSems0_V, ownBufs_V]
  iintro ⟨#Hlv, -, ⟨Hi, %fo, Ho⟩, ⟨⟨%fs, Hs⟩, ⟨%fk, Hk⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hs' := (Entails.of_eq (pts_sV (F := F) d L _).symm) $$ Hs
  ihave Hk' := (Entails.of_eq (pts_kV (F := F) d L _).symm) $$ Hk
  sl_exec
  sl_for (inv1 (F := F) d L) $$ [Hk']
  case region =>
    intro n _
    unfold inv1
    iintro ⟨%f, %hf, Hk⟩
    sl_exec
    sl_step
    iexists ((kV).view.writes (Elt F) f [⟨Rect.unit (s := S6400) (k0_off2 n) S16.size (k0_off2_inb n), k0_pay1 (F := F)⟩]); isplitr
    · ipureintro; exact inv1_step n f hf
    · iexact Hk
  · unfold inv1
    iexists fk; isplitr
    · ipureintro; intro j hj; exact absurd hj (Nat.not_lt_zero _)
    · iexact Hk'
  iintro %_ HI
  unfold inv1
  icases HI with ⟨%f, %hf, Hk⟩
  obtain rfl := inv1_full (F := F) L f hf (seedsV m d L)
  sl_for (inv2 (F := F) m d L) $$ [Hs' Hk]
  case region =>
    intro n _
    have hn : n.val < 469 := n.isLt.trans_eq trips2
    unfold inv2
    iintro ⟨Hs, Hk⟩
    sl_exec
    rw [wp_assume_of _ _ _ _ (show k0_chk1 (tile_body.sl.v25 m d L n) from chk L _)]
    ihave Hk' := (Entails.of_eq (pts_kV_whole (F := F) d L _).symm) $$ Hk
    iapply (SparseCore.wp_vectorStoreIdx 𝒱₀ (V d (cV L) (jV L)) none Set.univ (base := kV)) $$ Hk'
    iintro Hk
    sl_step
    isplitl [Hs]; · iexact Hs
    iapply (Entails.of_eq (scan_step (F := F) m d L n _ (fun x => lane_read (F := F) n (seedsV m d L) (by omega) x) _)); iexact Hk
  · unfold inv2
    isplitl [Hs']
    · iapply (Entails.of_eq (seeds_landed (F := F) m d L fs)); iexact Hs'
    · iexact Hk
  iintro %_ HI
  unfold inv2
  icases HI with ⟨Hs', Hk'⟩
  by_cases h0 : (L 0).val = 0
  · have h1 : k0_cond1 L = 1#1 := (cond_iff L).1.mpr h0
    have h2 : ¬ k0_cond2 L = 1#1 := fun h => absurd ((cond_iff L).2.mp h) (by omega)
    ihave Ho' := (Entails.of_eq ((mPts_zero (F := F) d L h0 _ _).trans (pts_aRowK (F := F) d L h1 _).symm)) $$ Ho
    sl_exec
    sl_step
    isplitl [Hi' Ho']
    · isplitl [Hi']; · iexact Hi'
      iapply (Entails.of_eq ((a_landed (F := F) m d L h1 fo).trans (mPts_zero (F := F) d L h0 _ _).symm)); iexact Ho'
    isplitl [Hs' Hk' Hbufs]
    · isplitl [Hs']; · iexists _; iexact Hs'
      isplitl [Hk']; · iexists _; iexact Hk'
      iexact Hbufs
    isplitl [HsemA HsemB HsemC Hsems]
    · isplitl [HsemA]; · iexact HsemA
      isplitl [HsemB]; · iexact HsemB
      isplitl [HsemC]; · iexact HsemC
      iexact Hsems
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  · have hL : (L 0).val < 2 := (L 0).isLt
    have h0 : (L 0).val = 1 := by omega
    have h1 : k0_cond2 L = 1#1 := (cond_iff L).2.mpr h0
    have h2 : ¬ k0_cond1 L = 1#1 := fun h => absurd ((cond_iff L).1.mp h) (by omega)
    ihave Ho' := (Entails.of_eq ((mPts_one (F := F) d L h0 _ _).trans (pts_bRowK (F := F) d L h1 _).symm)) $$ Ho
    sl_exec
    sl_step
    isplitl [Hi' Ho']
    · isplitl [Hi']; · iexact Hi'
      iapply (Entails.of_eq ((b_landed (F := F) m d L h1 fo).trans (mPts_one (F := F) d L h0 _ _).symm)); iexact Ho'
    isplitl [Hs' Hk' Hbufs]
    · isplitl [Hs']; · iexists _; iexact Hs'
      isplitl [Hk']; · iexists _; iexact Hk'
      iexact Hbufs
    isplitl [HsemA HsemB HsemC Hsems]
    · isplitl [HsemA]; · iexact HsemA
      isplitl [HsemB]; · iexact HsemB
      isplitl [HsemC]; · iexact HsemC
      iexact Hsems
    iexists (insert (SemLoc.dma cc0_scoped2.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO

end Tile

end Cert.Mask

end
-- ==== Proof.Region.lean ====
/-
  The TensorCore's blend: the value it leaves, its body on any staging buffers, and the pipelined region over its 25
  blocks, the last of which overhangs the arrays.
-/
module

public import proofs.«01_k».proof.Proof.Tile
public import Idealize.ShloMosaic.Lib.Pipeline.RegionsLoop
public import Idealize.ShloMosaic.Lib.Pipeline.FrameBody
public import Idealize.ShloMosaic.Lib.Pipeline.ValueKit
public import Idealize.ShloMosaic.Lib.ValueLayout
public import Idealize.ShloMosaic.Lib.ValueLayoutCasts
public import Idealize.ShloMosaic.Lib.VecWindow

@[expose] public section

noncomputable section

namespace Cert.Mask

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 1) (Elt F) ℕ UU ℕ

/-! ## The value -/

/-- Row `r` is masked where the two masks' product is zero. -/
def rowBit (A B : S102400.Idx → F .f32) (r : Fin 102400) : BitVec 1 := FloatOps.cmpf .oeq (FloatOps.mulf (A (ValueIdx.ix1 r)) (B (ValueIdx.ix1 r))) zero

/-- The blend of the whole arrays: the token in the masked rows, the embedding elsewhere. -/
def blend (E : S100000x512.Idx → F .f32) (A B : S102400.Idx → F .f32) (Tk : S1x512.Idx → F .f32) : S100000x512.Idx → F .f32 :=
  fun i => Scalar.select (rowBit A B ⟨(i 0).val, lt_trans (i 0).isLt (by decide)⟩) (Tk (ValueIdx.ix2 0 (i 1))) (E i)

theorem pay1_apply (v2 v5 : S4096.Idx → F .f32) (v11 : S1x512.Idx → F .f32) (v12 : S4096x512.Idx → F .f32) (a : Fin 4096) (b : Fin 512) :
    k1_pay1 v2 v5 v11 v12 (ValueIdx.ix2 a b)
      = Scalar.select (FloatOps.cmpf .oeq (FloatOps.mulf (v2 (ValueIdx.ix1 a)) (v5 (ValueIdx.ix1 a))) zero) (v11 (ValueIdx.ix2 0 b)) (v12 (ValueIdx.ix2 a b)) := by
  unfold k1_pay1
  simp only [shapeCast_self, select]
  congr 1
  · refine (broadcastTo_apply _ _ _ (ValueIdx.ix2 a (0 : Fin 1)) (by intro k; fin_cases k <;> rfl)).trans ?_
    unfold cmpf broadcast
    exact congrArg (FloatOps.cmpf .oeq · zero) (ValueIdx.shapeCast_a_a1_apply _ _ a 0)
  · exact ValueIdx.broadcastTo_1b_ab_apply _ _ a b

/-! ## The body -/

section Body
variable (c : Dev nD) (i : grid1.Coords)
  (M1 : Memref sig .tc .vmem S4096x512 .f32) (h1 : M1.IsWhole) (M2 : Memref sig .tc .vmem S102400 .f32) (h2 : M2.IsWhole)
  (M3 : Memref sig .tc .vmem S102400 .f32) (h3 : M3.IsWhole) (M4 : Memref sig .tc .vmem S1x512 .f32) (h4 : M4.IsWhole)
  (M5 : Memref sig .tc .vmem S4096x512 .f32) (h5 : M5.IsWhole)

/-- The rows of a mask the body loads at a point. -/
def maskRows (A : S102400.Idx → F .f32) : S4096.Idx → F .f32 := VecWindow.window A (k1_off1 i) S4096.size (k1_off1_inb i)

theorem blend_body (E : Set ℕ) (X1 : S4096x512.Idx → F .f32) (A B : S102400.Idx → F .f32) (Tk : S1x512.Idx → F .f32)
    (X5 : S4096x512.Idx → F .f32) (Q : PUnit → sProp 𝕄) :
    iprop((owns (Val := Elt F) (c : Thread nD τ) M1 fullShare X1 ∗ owns (Val := Elt F) (c : Thread nD τ) M2 fullShare A
            ∗ owns (Val := Elt F) (c : Thread nD τ) M3 fullShare B ∗ owns (Val := Elt F) (c : Thread nD τ) M4 fullShare Tk
            ∗ owns (Val := Elt F) (c : Thread nD τ) M5 fullShare X5)
          ∗ (iprop(owns (Val := Elt F) (c : Thread nD τ) M1 fullShare X1 ∗ owns (Val := Elt F) (c : Thread nD τ) M2 fullShare A
            ∗ owns (Val := Elt F) (c : Thread nD τ) M3 fullShare B ∗ owns (Val := Elt F) (c : Thread nD τ) M4 fullShare Tk
            ∗ owns (Val := Elt F) (c : Thread nD τ) M5 fullShare (k1_pay1 (maskRows i A) (maskRows i B) Tk X1)) -∗ Q ⟨⟩))
      ⊢ wp frame (wpE (defs₀ (F := F)) 𝒱₀ (c : Thread nD τ) none) E (cc1__blend_body i M1 h1 M2 h2 M3 h3 M4 h4 M5 h5) Q := by
  rw [cc1__blend_body_eq_skeleton]
  unfold cc1__blend_body_skel owns
  iintro ⟨⟨⟨%f1, %e1, H1⟩, ⟨%f2, %e2, H2⟩, ⟨%f3, %e3, H3⟩, ⟨%f4, %e4, H4⟩, ⟨%f5, %e5, H5⟩⟩, Hk⟩
  sl_exec
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  iexists _
  isplitr; swap; · iexact H5
  ipureintro
  subst e1 e2 e3 e4
  refine (View.read_writes_full M5.view f5 _ _ []).trans ?_
  rw [View.readAt_full M1.view f1, View.readAt_full M4.view f4]
  rfl

end Body

/-! ## The proof data -/

section Data
variable (E O : S100000x512.Idx → F .f32) (A B : S102400.Idx → F .f32) (Tk : S1x512.Idx → F .f32)

/-- The embedding's block at a point, as far as it is inside the array. -/
def eblk (t : Fin cfg1.N) : (win1_0.xblock (grid1.coords t)).Idx → F .f32 := (win1_0.blk t).view.read (Elt F) E

/-- The blend's block at a point. -/
def oblk (t : Fin cfg1.N) : (win1_4.xblock (grid1.coords t)).Idx → F .f32 := (win1_4.blk t).view.read (Elt F) (blend E A B Tk)

/-- What the clipped windows' staging buffers hold after the body, filled out past the arrays' end. -/
def eblk8 (t : Fin cfg1.N) : S4096x512.Idx → Elt F .f32 := win1_0.fill (grid1.coords t) (fun _ => zero) (eblk E t)
def oblk8 (t : Fin cfg1.N) : S4096x512.Idx → Elt F .f32 := win1_4.fill (grid1.coords t) (fun _ => zero) (oblk E A B Tk t)

/-- The pairs of semaphore and index the TensorCore may have waited at by the region's entry. -/
def waited (c : Dev nD) : Set (SemLoc sig × HIx 1) := {p | (K (F := F)).lev (SparseCore.T c, p.1) p.2 ≤ 8}

def dat (c : Dev nD) : Dat τ (Elt F) (HIx 1) ℕ UU ℕ cfg1 c where
  A w := match w with
    | ⟨0, _⟩ => E
    | ⟨1, _⟩ => A
    | ⟨2, _⟩ => B
    | ⟨3, _⟩ => Tk
    | ⟨4, _⟩ => O
  after w t := match w with
    | ⟨0, _⟩ => eblk8 E t
    | ⟨1, _⟩ => A
    | ⟨2, _⟩ => B
    | ⟨3, _⟩ => Tk
    | ⟨4, _⟩ => oblk8 E A B Tk t
  Φ _ := iprop(emp)
  q _ := fullShare
  owed _ := 0
  recorded _ := waited (F := F) c

/-! ### What the body finds -/

theorem read_whole1 (t : Fin cfg1.N) (f : S102400.Idx → Elt F .f32) : (win1_1.blk t).view.read (Elt F) f = f := by
  funext j
  blk_simp
  exact congrArg f (by funext a; fin_cases a; apply Fin.ext; blk_simp; show 0 * 102400 + _ = _; omega)
theorem read_whole2 (t : Fin cfg1.N) (f : S102400.Idx → Elt F .f32) : (win1_2.blk t).view.read (Elt F) f = f := by
  funext j
  blk_simp
  exact congrArg f (by funext a; fin_cases a; apply Fin.ext; blk_simp; show 0 * 102400 + _ = _; omega)
theorem read_whole3 (t : Fin cfg1.N) (f : S1x512.Idx → Elt F .f32) : (win1_3.blk t).view.read (Elt F) f = f := by
  funext j
  blk_simp
  exact congrArg f (by
    funext a; fin_cases a
    · apply Fin.ext; blk_simp; rfl
    · apply Fin.ext; blk_simp; show 0 * 512 + _ = _; omega)

theorem before_0 (c : Dev nD) (t : Fin cfg1.N) (d) : (dat E O A B Tk c).before (0 : Fin 5) t d = win1_0.fill (grid1.coords t) d (eblk E t) := by
  unfold Dat.before; rw [if_pos (fetch1_0 t)]; rfl
theorem before_1 (c : Dev nD) (t : Fin cfg1.N) (d) : (dat E O A B Tk c).before (1 : Fin 5) t d = A := by
  refine ((dat E O A B Tk c).before_in_eq_fetched (1 : Fin 5) rfl (fun _ => rfl) (fun _ _ _ => rfl) (fun t => (read_whole1 t A).symm) t d).trans ?_
  exact read_whole1 t A
theorem before_2 (c : Dev nD) (t : Fin cfg1.N) (d) : (dat E O A B Tk c).before (2 : Fin 5) t d = B := by
  refine ((dat E O A B Tk c).before_in_eq_fetched (2 : Fin 5) rfl (fun _ => rfl) (fun _ _ _ => rfl) (fun t => (read_whole2 t B).symm) t d).trans ?_
  exact read_whole2 t B
theorem before_3 (c : Dev nD) (t : Fin cfg1.N) (d) : (dat E O A B Tk c).before (3 : Fin 5) t d = Tk := by
  refine ((dat E O A B Tk c).before_in_eq_fetched (3 : Fin 5) rfl (fun _ => rfl) (fun _ _ _ => rfl) (fun t => (read_whole3 t Tk).symm) t d).trans ?_
  exact read_whole3 t Tk
theorem before_4 (c : Dev nD) (t : Fin cfg1.N) (d) : (dat E O A B Tk c).before (4 : Fin 5) t d = d :=
  (dat E O A B Tk c).before_out_reset (4 : Fin 5) rfl t (by
    by_cases h : t.val = 0
    · exact .inl h
    · exact .inr ⟨h, flush1_4 _⟩) d

/-! ### What the body leaves -/

theorem index4_0 (t : Fin cfg1.N) : win1_4.index t 0 = ((grid1.coords t) 0).val := by revert t; decide +kernel

theorem pay_cut (t : Fin cfg1.N) (d : S4096x512.Idx → Elt F .f32) :
    win1_4.cut (grid1.coords t) (k1_pay1 (maskRows (grid1.coords t) A) (maskRows (grid1.coords t) B) Tk (win1_0.fill (grid1.coords t) d (eblk E t)) : S4096x512.Idx → Elt F .f32)
      = oblk E A B Tk t := by
  funext j
  have hx : ∃ (a : Fin 4096) (b : Fin 512), a.val = (j 0).val ∧ b.val = (j 1).val ∧ win1_4.xinj (grid1.coords t) j = ValueIdx.ix2 a b :=
    ⟨(win1_4.xinj (grid1.coords t) j) 0, (win1_4.xinj (grid1.coords t) j) 1, rfl, rfl, by funext a; fin_cases a <;> rfl⟩
  obtain ⟨a, b, ha, hb, hab⟩ := hx
  have hfill : win1_0.fill (grid1.coords t) d (eblk E t) (win1_4.xinj (grid1.coords t) j) = eblk E t j := win1_0.fill_xinj _ _ _ j
  show k1_pay1 _ _ _ _ (win1_4.xinj (grid1.coords t) j) = _
  rw [hab] at hfill ⊢
  rw [pay1_apply, hfill]
  have h0 : (((win1_4.blk t).view.emb j) 0).val = 4096 * ((grid1.coords t) 0).val + a.val :=
    (win1_4.rect_emb_val t j 0).trans (by rw [index4_0, ha]; show _ * 4096 + _ = _; rw [Nat.mul_comm])
  have h1 : (((win1_4.blk t).view.emb j) 1).val = b.val :=
    (win1_4.rect_emb_val_of_index_zero t 1 rfl j).trans hb.symm
  have hm : ∀ X : S102400.Idx → F .f32, maskRows (grid1.coords t) X (ValueIdx.ix1 a) = X (ValueIdx.ix1 ⟨((win1_4.blk t).view.emb j 0).val, lt_trans ((win1_4.blk t).view.emb j 0).isLt (show (100000 : ℕ) < 102400 by decide)⟩) := by
    intro X
    unfold maskRows VecWindow.window
    refine congrArg X (funext fun k => ?_)
    fin_cases k
    apply Fin.ext
    show k1_off1 (grid1.coords t) 0 + 1 * a.val = ((win1_4.blk t).view.emb j 0).val
    rw [k1_off1_eq, h0, Nat.one_mul]; rfl
  rw [hm, hm]
  show _ = blend E A B Tk ((win1_4.blk t).view.emb j)
  unfold blend rowBit
  congr 1
  exact congrArg Tk (congrArg (ValueIdx.ix2 0) (Fin.ext h1.symm))

/-- The body's obligation at every point. -/
theorem body_obligation (c : Dev nD) : BodyObligationLoose (dat E O A B Tk c) (defs₀ (F := F)) 𝒱₀ (none : HIx 1) Set.univ := fun t => by
  rw [bigSep_W1, bigSep_W1]
  simp only
  rw [show (dat E O A B Tk c).Φ t.succ = (dat E O A B Tk c).Φ t.castSucc from rfl,
    show (dat E O A B Tk c).owesAt (none : HIx 1) t.succ = (dat E O A B Tk c).owesAt (none : HIx 1) t.castSucc from rfl]
  iintro ⟨HΦ, Ho, ⟨%d0, H0⟩, ⟨%d1, H1⟩, ⟨%d2, H2⟩, ⟨%d3, H3⟩, ⟨%d4, H4⟩⟩
  rw [before_0 E O A B Tk c t d0, before_1 E O A B Tk c t d1, before_2 E O A B Tk c t d2, before_3 E O A B Tk c t d3, before_4 E O A B Tk c t d4]
  iapply (blend_body (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    Set.univ (win1_0.fill (grid1.coords t) d0 (eblk E t)) A B Tk d4 _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists d0
    have hx : win1_0.cut (grid1.coords t) (eblk8 E t) = eblk E t := win1_0.cut_fill _ _ _
    change _ ⊢ owns (c : Thread nD τ) (st1_0 t) fullShare (win1_0.fill (grid1.coords t) d0 (win1_0.cut (grid1.coords t) (eblk8 E t)))
    rw [hx]; try iexact H0
  isplitl [H1]; · iexact H1
  isplitl [H2]; · iexact H2
  isplitl [H3]; · iexact H3
  iexists (k1_pay1 (maskRows (grid1.coords t) A) (maskRows (grid1.coords t) B) Tk (win1_0.fill (grid1.coords t) d0 (eblk E t)) : S4096x512.Idx → Elt F .f32)
  have hx : win1_4.cut (grid1.coords t) (oblk8 E A B Tk t) = oblk E A B Tk t := win1_4.cut_fill _ _ _
  have hfc := win1_4.fill_congr_cut (grid1.coords t) ((pay_cut E A B Tk t d0).trans hx.symm)
  change _ ⊢ owns (c : Thread nD τ) (st1_4 t) fullShare (win1_4.fill (grid1.coords t) _ (win1_4.cut (grid1.coords t) (oblk8 E A B Tk t)))
  rw [hfc]; try iexact H4

/-- The result array after the region. -/
theorem final_out (c : Dev nD) : (dat E O A B Tk c).arrAt (4 : Fin 5) cfg1.N = blend E A B Tk :=
  (dat E O A B Tk c).arrAt_eq_of_cover (4 : Fin 5) (blend E A B Tk)
    (fun t _ => win1_4.cut_fill (grid1.coords t) _ (oblk E A B Tk t))
    (fun i => Pipeline.Window.Covers.cover win1_4 (by decide +kernel) (Memref.isWhole_whole _) i)

end Data

/-! ## The region over the five arrays -/

section Reg
variable (E O : Dev nD → S100000x512.Idx → F .f32) (A B : Dev nD → S102400.Idx → F .f32) (Tk : Dev nD → S1x512.Idx → F .f32)

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat (E c) (O c) (A c) (B c) (Tk c) c

/-- The five arrays held whole. -/
def five (c : Dev nD) (e : S100000x512.Idx → F .f32) (a b : S102400.Idx → F .f32) (tk : S1x512.Idx → F .f32) (o : S100000x512.Idx → F .f32) : sProp 𝕄 :=
  iprop((eLoc c ↦{fullShare} e) ∗ (aLoc c ↦{fullShare} a) ∗ (bLoc c ↦{fullShare} b) ∗ (tLoc c ↦{fullShare} tk) ∗ (oLoc c ↦{fullShare} o))

/-- What the TensorCore owes around the region: nothing, its waits recorded below the next call. -/
def owed0 (c : Dev nD) : sProp 𝕄 := iprop(∃ W, ⌜(K (F := F)).WBelow (SparseCore.T c) W 8⌝ ∗ owes (SparseCore.T c) (0 : CellTallies nD τ sig (HIx 1)) W)

set_option backward.isDefEq.respectTransparency.types false in
theorem arrays_five (c : Dev nD) (G : (w : Fin cfg1.W) → Buf (Elt F) ((cfg1.win w).arr.view.loc (c.tc : Thread nD τ))) :
    ((pdats E O A B Tk 0 c).arrays G : sProp 𝕄) = five c (G (0 : Fin 5)) (G (1 : Fin 5)) (G (2 : Fin 5)) (G (3 : Fin 5)) (G (4 : Fin 5)) := by
  refine (Pipeline.arrays_eq (Pipeline.pin (pcfgs (F := F)) adm) (pdats E O A B Tk) 0 c launch1.arr_whole
    ((pdats E O A B Tk 0 c).share_full fun _ => rfl) G).trans ?_
  exact bigSep_W1 _

set_option backward.isDefEq.respectTransparency.types false in
def reg : Pipeline.RegionSeg (pcfgs (F := F)) adm (pdats E O A B Tk) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation (E c) (O c) (A c) (B c) (Tk c) c
  hwaits := Pipeline.hwaits_of_owed_zero _ _ _ _ (K (F := F)).L (K (F := F)).lev 0 fun _ _ => rfl
  pre c := iprop(five c (E c) (A c) (B c) (Tk c) (O c) ∗ owed0 c)
  post c := iprop(five c (E c) (A c) (B c) (Tk c) (blend (E c) (A c) (B c) (Tk c)) ∗ owed0 c)
  X _ := BI.emp
  Y _ := BI.emp
  Z _ := BI.emp
  hentry c := by
    rw [Pipeline.ownSems0_none, arrays_five]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owed0
      icases HO with ⟨%W, %hW, HO⟩; iexists W; isplitr; · ipureintro; exact fun p hp => Or.inl (hW p hp)
      iexact HO
    isplitr <;> iempintro
  hin c := by
    iintro -; iapply (Entails.of_eq (show (BI.emp : sProp 𝕄) = (pdats E O A B Tk 0 c).Φ 0 from rfl)); iempintro
  hout c := by
    rw [Pipeline.ownSems0_none]
    have hs : (Pipeline.scopedRest (Ix := HIx 1) (Name := ℕ) (U := UU) (Lvl := ℕ) (Val := Elt F) spec1 c : sProp 𝕄) = BI.emp := scopedRest1_eq c
    iintro -
    isplitr; · iempintro
    isplitr; · iempintro
    iapply (Entails.of_eq hs.symm)
    iempintro
  hexit c := by
    rw [arrays_five]
    have h0 : (pdats E O A B Tk 0 c).arrAt (0 : Fin 5) cfg1.N = E c := (pdats E O A B Tk 0 c).arrAt_in (0 : Fin 5) rfl _
    have h1 : (pdats E O A B Tk 0 c).arrAt (1 : Fin 5) cfg1.N = A c := (pdats E O A B Tk 0 c).arrAt_in (1 : Fin 5) rfl _
    have h2 : (pdats E O A B Tk 0 c).arrAt (2 : Fin 5) cfg1.N = B c := (pdats E O A B Tk 0 c).arrAt_in (2 : Fin 5) rfl _
    have h3 : (pdats E O A B Tk 0 c).arrAt (3 : Fin 5) cfg1.N = Tk c := (pdats E O A B Tk 0 c).arrAt_in (3 : Fin 5) rfl _
    have h4 : (pdats E O A B Tk 0 c).arrAt (4 : Fin 5) cfg1.N = blend (E c) (A c) (B c) (Tk c) := final_out (E c) (O c) (A c) (B c) (Tk c) c
    have hf : five c _ _ _ _ _ = five (F := F) c (E c) (A c) (B c) (Tk c) (blend (E c) (A c) (B c) (Tk c)) := congr (congr (congr (congr (congrArg (five (F := F) c) h0) h1) h2) h3) h4
    iintro ⟨Ha, HO, -, -⟩
    imodintro
    isplitl [Ha]
    · iapply (Entails.of_eq hf) $$ Ha
    unfold Pipeline.Dat.owesAt Pipeline.owesWithin owed0
    icases HO with ⟨%W, %hW, HO⟩; iexists W; isplitr
    · ipureintro; intro p hp
      rcases hW (Finset.mem_coe.mpr hp) with h | ⟨w, s, rfl⟩
      · exact h
      · rw [SparseCore.Cfg.lev_none]; exact Nat.zero_le _
    iexact HO

end Reg

end Cert.Mask
-- ==== Proof.Run.lean ====
/-
  The launch: each tile's task as the launch theorem asks it, a SparseCore's mask split over its tiles and joined, the
  TensorCore's program (the SparseCore call, then the blend's region), and the whole program's run: the result at `blend`
  of the two masks' values, the arguments unchanged.
-/
module

public import proofs.«01_k».proof.Proof.Region

@[expose] public section

noncomputable section

namespace Cert.Mask

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_arg1_scv : Memref Cert.KernelIdeal.sig Kind.scVector Space.hbm Cert.KernelIdeal.S15000 EltTy.i32)
local notation "aV" => (Memref.whole Cert.KernelIdeal.main_v0_0_scv : Memref Cert.KernelIdeal.sig Kind.scVector Space.hbm Cert.KernelIdeal.S102400 EltTy.f32)
local notation "bV" => (Memref.whole Cert.KernelIdeal.main_v0_1_scv : Memref Cert.KernelIdeal.sig Kind.scVector Space.hbm Cert.KernelIdeal.S102400 EltTy.f32)
local notation "sV" => (Memref.whole Cert.KernelIdeal.cc0_scratch0 : Memref Cert.KernelIdeal.sig Kind.scVector Space.vmem Cert.KernelIdeal.S7504 EltTy.i32)
local notation "kV" => (Memref.whole Cert.KernelIdeal.cc0_scratch1 : Memref Cert.KernelIdeal.sig Kind.scVector Space.vmem Cert.KernelIdeal.S6400 EltTy.f32)

variable (m : (ℓ : Loc nD τ sig) → Buf (Elt F) ℓ) (ρ : Dev nD → PrngReg)

/-! ## The tile's task as the launch asks it -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__mask_sc_body (coordsV c s)
          iV (Memref.isWhole_whole _) aV (Memref.isWhole_whole _) bV (Memref.isWhole_whole _)
          sV (Memref.isWhole_whole _) kV (Memref.isWhole_whole _) cc0_scoped0 cc0_scoped1 cc0_scoped2) ⟨⟩ c s := rfl

omit [FloatOps F] in
theorem waits_mono {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW, HO⟩
  iexists W'; isplitr
  · ipureintro; exact fun p hp => (hW p hp).imp_right .inl
  iexact HO

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => waits_mono)

/-! ## A mask's rows split and join; the shares of the seeds -/

theorem mrows_disjoint : ∀ i ∈ (Finset.univ : Finset (Fin 16)), ∀ j ∈ (Finset.univ : Finset (Fin 16)), i ≠ j → Disjoint (mrow i).set (mrow j).set :=
  fun _ _ _ _ h => Rect.part_disjoint mdiv h
theorem mrows_cover : (Finset.univ : Finset (Fin 16)).biUnion (fun i => (mrow i).set) = Finset.univ := Rect.biUnion_part mdiv

omit [FloatOps F] in
theorem mPts_rows (d : Dev nD) (c : Fin 2) (f : S102400.Idx → F .f32) :
    (mPts d c Finset.univ f : sProp 𝕄) = bigSep Finset.univ fun i : Fin 16 => mPts d c (mrow i).set f := by
  match c with
  | 0 =>
    show (aLoc d ↦[Finset.univ]{fullShare} f : sProp 𝕄) = bigSep Finset.univ fun i : Fin 16 => aLoc d ↦[(mrow i).set]{fullShare} f
    rw [← pointsTo_biUnion Finset.univ (ℓ := aLoc d) (fun i : Fin 16 => (mrow i).set) mrows_disjoint]
    exact congrArg (fun I => (aLoc d ↦[I]{fullShare} f : sProp 𝕄)) mrows_cover.symm
  | 1 =>
    show (bLoc d ↦[Finset.univ]{fullShare} f : sProp 𝕄) = bigSep Finset.univ fun i : Fin 16 => bLoc d ↦[(mrow i).set]{fullShare} f
    rw [← pointsTo_biUnion Finset.univ (ℓ := bLoc d) (fun i : Fin 16 => (mrow i).set) mrows_disjoint]
    exact congrArg (fun I => (bLoc d ↦[I]{fullShare} f : sProp 𝕄)) mrows_cover.symm

theorem sPts_cores (d : Dev nD) : (sPts m d fullShare : sProp 𝕄) = bigSep Finset.univ fun c : Fin 2 => sPts m d (cq c) :=
  Transfers.pointsTo_deal Finset.univ Finset.univ_nonempty fullShare
theorem sPts_tiles (d : Dev nD) (c : Fin 2) : (sPts m d (cq c) : sProp 𝕄) = bigSep Finset.univ fun i : Fin 16 => sPts m d (tq c i) :=
  Transfers.pointsTo_deal Finset.univ Finset.univ_nonempty (cq c)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(sPts m d (cq (Fin.cast nCore_zero c)) ∗ ∃ f, mPts d (Fin.cast nCore_zero c) Finset.univ f) ⊢ |={Set.univ}=> iprop(
      (bigSep Finset.univ fun i : Fin ((K (F := F)).nSub 0) =>
        iprop(sPts m d (tq (Fin.cast nCore_zero c) (Fin.cast nSub_zero i)) ∗ ∃ f, mPts d (Fin.cast nCore_zero c) (mrow (Fin.cast nSub_zero i)).set f))
      ∗ ((bigSep Finset.univ fun i : Fin ((K (F := F)).nSub 0) =>
          iprop(sPts m d (tq (Fin.cast nCore_zero c) (Fin.cast nSub_zero i))
            ∗ mPts d (Fin.cast nCore_zero c) (mrow (Fin.cast nSub_zero i)).set (maskVal (m (sLoc d)) c.val)))
          -∗ iprop(sPts m d (cq (Fin.cast nCore_zero c)) ∗ mPts d (Fin.cast nCore_zero c) Finset.univ (maskVal (m (sLoc d)) c.val))))
  rw [bigSep_tasks (F := F) (fun i => iprop(sPts m d (tq (Fin.cast nCore_zero c) i) ∗ ∃ f, mPts d (Fin.cast nCore_zero c) (mrow i).set f)),
    bigSep_tasks (F := F) (fun i => iprop(sPts m d (tq (Fin.cast nCore_zero c) i) ∗ mPts d (Fin.cast nCore_zero c) (mrow i).set (maskVal (m (sLoc d)) c.val))),
    bigSep_sep', bigSep_sep', sPts_tiles, mPts_rows]
  iintro ⟨Hs, %f, Hm⟩; imodintro
  isplitl [Hs Hm]
  · isplitl [Hs]; · iexact Hs
    have hw : (mPts d (Fin.cast nCore_zero c) Finset.univ f : sProp 𝕄)
        ⊢ bigSep Finset.univ fun i : Fin 16 => iprop(∃ f, mPts d (Fin.cast nCore_zero c) (mrow i).set f) :=
      (Entails.of_eq (mPts_rows d _ f)).trans (bigSep_mono fun i _ => (show mPts d (Fin.cast nCore_zero c) (mrow i).set f ⊢ iprop(∃ f, mPts d (Fin.cast nCore_zero c) (mrow i).set f) by
        iintro H; iexists f; iexact H))
    iapply hw; iexact Hm
  iintro ⟨Hs, Hm⟩
  isplitl [Hs] <;> iassumption

/-! ## The launch element of the ghost state -/

def u₀ : UU := (initOf (K (F := F)).hsCells (K (F := F)).hsToks, (initOf (Pipeline.cells cfgs cellOf_inj) (Pipeline.launchToks cfgs cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The pipeline's ghost state, a core's. -/
def G (c : Dev nD) : sProp 𝕄 := iprop(Pipeline.cellsGhost (Pipeline.pin (pcfgs (F := F)) adm) EP 0 c ∗ Pipeline.toksInit (Pipeline.pin (pcfgs (F := F)) adm) EP 0 c)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · have e : (bigSep Finset.univ (G (F := F)))
        = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) := by
      rw [← bigSep_sep']
      refine bigSep_congr fun c _ => ?_
      rw [bigSep_univ_of_subsingleton (0 : Fin 1), bigSep_univ_of_subsingleton (0 : Fin 1)]
      rfl
    rw [e]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (sLoc d ↦{fullShare} W main_arg1) ∗ (tLoc d ↦{fullShare} W main_arg2)
      ∗ (aLoc d ↦{fullShare} W main_v0_0) ∗ (bLoc d ↦{fullShare} W main_v0_1) ∗ oLoc d ↦{fullShare} W main_v1) := by
  unfold unscopedBufs
  rw [show (Finset.univ.filter fun b : Ref sig .tc => ¬ b.isScoped) = {main_arg0, main_arg1, main_arg2, main_v0_0, main_v0_1, main_v1} by decide,
    SparseCore.bigSep_insert' (by decide), SparseCore.bigSep_insert' (by decide), SparseCore.bigSep_insert' (by decide),
    SparseCore.bigSep_insert' (by decide), SparseCore.bigSep_insert' (by decide), bigSep_singleton]

theorem bigSep_cores (Φ : Fin 2 → sProp 𝕄) :
    (bigSep Finset.univ fun c : Fin ((K (F := F)).nCore 0) => Φ (Fin.cast nCore_zero c)) = iprop(Φ 0 ∗ Φ 1) :=
  (bigSep_congr fun _ _ => congrArg Φ (Fin.ext rfl)).trans (bigSep_univ_eq_bigSepL [(0 : Fin 2), (1 : Fin 2)] (by decide) (by decide) Φ)

theorem st0_eq (d : Dev nD) : (bigSep Finset.univ fun c : Fin ((K (F := F)).nCore 0) => (P m).st 0 d c)
    = iprop((sPts m d (cq 0) ∗ ∃ f, aLoc d ↦{fullShare} f) ∗ (sPts m d (cq 1) ∗ ∃ f, bLoc d ↦{fullShare} f)) :=
  bigSep_cores (F := F) fun c => iprop(sPts m d (cq c) ∗ ∃ f, mPts d c Finset.univ f)
theorem dn0_eq (d : Dev nD) : (bigSep Finset.univ fun c : Fin ((K (F := F)).nCore 0) => (P m).dn 0 d c)
    = iprop((sPts m d (cq 0) ∗ aLoc d ↦{fullShare} maskVal (m (sLoc d)) 0) ∗ (sPts m d (cq 1) ∗ bLoc d ↦{fullShare} maskVal (m (sLoc d)) 1)) :=
  bigSep_cores (F := F) fun c => iprop(sPts m d (cq c) ∗ mPts d c Finset.univ (maskVal (m (sLoc d)) c.val))

theorem sPts_two (d : Dev nD) : (sLoc d ↦{fullShare} m (sLoc d) : sProp 𝕄) = iprop(sPts m d (cq 0) ∗ sPts m d (cq 1)) :=
  (sPts_cores m d).trans (bigSep_univ_eq_bigSepL [(0 : Fin 2), (1 : Fin 2)] (by decide) (by decide) fun c => sPts m d (cq c))

/-- The result array's value. -/
def outVal (d : Dev nD) : S100000x512.Idx → F .f32 :=
  blend (m (eLoc d)) (maskVal (m (sLoc d)) 0) (maskVal (m (sLoc d)) 1) (m (tLoc d))

abbrev FIN (d : Dev nD) : sProp 𝕄 :=
  iprop((eLoc d ↦{fullShare} m (eLoc d)) ∗ (sLoc d ↦{fullShare} m (sLoc d)) ∗ (tLoc d ↦{fullShare} m (tLoc d)) ∗ oLoc d ↦{fullShare} outVal m d)

abbrev regM := reg (F := F) (fun d => m (eLoc d)) (fun d => m (oLoc d)) (fun d => maskVal (m (sLoc d)) 0) (fun d => maskVal (m (sLoc d)) 1) (fun d => m (tLoc d))

/-- After the call the TensorCore owes nothing. -/
theorem tcSt_one (d : Dev nD) : ∃ R : sProp 𝕄, ((K (F := F)).tcSt EH d 1 : sProp 𝕄) = iprop(owed0 (F := F) d ∗ R) := by
  unfold SparseCore.Cfg.tcSt owed0
  rw [(K (F := F)).Otc_end d (le_refl 1)]
  exact ⟨_, rfl⟩

theorem region_wp [∀ e, Nonempty (Elt F e)] (d : Dev nD) (Q : PUnit → sProp 𝕄) :
    iprop((iprop(boundary (d.tc : Thread nD τ) ∗ (regM m).post d) -∗ Q ⟨⟩)
        ∗ boundary (d.tc : Thread nD τ) ∗ (regM m).pre d ∗ levAts (K (F := F)).L (K (F := F)).lev ∗ G d)
      ⊢ wp frame (wpE (D (F := F)) 𝒱 (SparseCore.T d) none) Set.univ (.op (.customCall (Pipeline.entry 0) ()) .ret) Q := by
  unfold G
  iintro ⟨Hk, Hb, Hp, Hl, Hg, Ht⟩
  iapply (Pipeline.RegionSeg.wp (pcfgs (F := F)) adm (pdats (F := F) (fun d => m (eLoc d)) (fun d => m (oLoc d)) (fun d => maskVal (m (sLoc d)) 0) (fun d => maskVal (m (sLoc d)) 1) (fun d => m (tLoc d)))
    (none : HIx 1) cellOf_inj (EP (F := F)) defs₀ 𝒱₀ (K (F := F)).L (K (F := F)).lev (regM m) d none (fun _ h => nomatch h) .ret Q)
  isplitl [Hk]
  · iintro H
    rw [wp_ret]
    imodintro
    iapply Hk; iexact H
  isplitl [Hb]; · iexact Hb
  isplitl [Hp]; · iexact Hp
  isplitl [Hl]; · iexact Hl
  isplitl [Hg] <;> iassumption

theorem region_main [∀ e, Nonempty (Elt F e)] (d : Dev nD) (Q : PUnit → sProp 𝕄) :
    iprop((iprop(boundary (d.tc : Thread nD τ) ∗ (regM m).post d) -∗ Q ⟨⟩)
        ∗ boundary (d.tc : Thread nD τ) ∗ (regM m).pre d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q :=
  (region_wp m d Q).trans ((K (F := F)).wp_liftProg (D (F := F)) 𝒱 (SparseCore.T d) Set.univ none (.op (.customCall (Pipeline.entry 0) ()) .ret) Q)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨He, Hs, Ht, Ha, Hbb, Ho⟩, Hts, -⟩, HG⟩
  iapply ((K (F := F)).wp_run (D (F := F)) 𝒱 (EH := EH) (P := P m) κ d 0) $$ [Hst He Hs Ht Ha Hbb Ho Hb Hts HG]
  isplitr; · iexact Hctx
  isplitl [Hst]; · iexact Hst
  ihave Hs' := (Entails.of_eq (sPts_two m d)) $$ Hs
  icases Hs' with ⟨Hs0, Hs1⟩
  isplitl [Hs0 Hs1 Ha Hbb]
  · rw [st0_eq]
    isplitl [Hs0 Ha]
    · isplitl [Hs0]; · iexact Hs0
      iexists (m (aLoc d)); iexact Ha
    · isplitl [Hs1]; · iexact Hs1
      iexists (m (bLoc d)); iexact Hbb
  iintro ⟨Hst, Hdn⟩
  ihave Hdn' := (Entails.of_eq (dn0_eq m d)) $$ Hdn
  icases Hdn' with ⟨⟨Hs0, Ha⟩, ⟨Hs1, Hbb⟩⟩
  ihave Hs := (Entails.of_eq (sPts_two m d).symm) $$ [Hs0 Hs1]
  · isplitl [Hs0] <;> iassumption
  obtain ⟨R, hR⟩ := tcSt_one (F := F) d
  have hR' : ((K (F := F)).tcSt EH d ((0 : Fin 1).val + 1) : sProp 𝕄) = _ := hR
  ihave Hst' := (Entails.of_eq hR') $$ Hst
  icases Hst' with ⟨HO, Hst⟩
  ihave #Hlv := (SparseCore.Cfg.ctx_levAts κ) $$ Hctx
  iapply (region_main m d _)
  isplitr [Hb HG HO He Ha Hbb Ht Ho]
  rotate_left
  · isplitl [Hb]; · iexact Hb
    isplitl [HO He Ha Hbb Ht Ho]
    · iapply (Entails.of_eq (show iprop(five d (m (eLoc d)) (maskVal (m (sLoc d)) 0) (maskVal (m (sLoc d)) 1) (m (tLoc d)) (m (oLoc d)) ∗ owed0 d) = (regM m).pre d from rfl))
      isplitl [He Ha Hbb Ht Ho]
      · unfold five
        isplitl [He]; · iexact He
        isplitl [Ha]; · iexact Ha
        isplitl [Hbb]; · iexact Hbb
        isplitl [Ht]; · iexact Ht
        iexact Ho
      iexact HO
    isplitr; · iexact Hlv
    iexact HG
  iintro ⟨Hb, Hpost⟩
  ihave Hpost' := (Entails.of_eq (show (regM m).post d = iprop(five d (m (eLoc d)) (maskVal (m (sLoc d)) 0) (maskVal (m (sLoc d)) 1) (m (tLoc d)) (outVal m d) ∗ owed0 d) from rfl)) $$ Hpost
  unfold five
  icases Hpost' with ⟨⟨He, Ha, Hbb, Ht, Ho⟩, HO⟩
  imodintro
  isplitl [Hst HO]
  · rw [hR]
    isplitl [HO] <;> iassumption
  isplitl [He Hs Ht Ho]
  · isplitl [He]; · iexact He
    isplitl [Hs]; · iexact Hs
    isplitl [Ht]; · iexact Ht
    iexact Ho
  isplitl [Hb] <;> iassumption

/-! ## The program's run -/

def fq (d : Dev nD) (s' : Phys nD τ sig (Elt F)) : Prop :=
  s'.mem.mem (eLoc d) = m (eLoc d) ∧ s'.mem.mem (sLoc d) = m (sLoc d) ∧ s'.mem.mem (tLoc d) = m (tLoc d) ∧ s'.mem.mem (oLoc d) = outVal m d

theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨He, Hs, Ht, Ho⟩, HSI⟩
  ihave H := (read_whole s' (eLoc d) _) $$ [HSI He]
  · isplitl [He] <;> iassumption
  icases H with ⟨%h1, HSI⟩
  ihave H := (read_whole s' (sLoc d) _) $$ [HSI Hs]
  · isplitl [Hs] <;> iassumption
  icases H with ⟨%h2, HSI⟩
  ihave H := (read_whole s' (tLoc d) _) $$ [HSI Ht]
  · isplitl [Ht] <;> iassumption
  icases H with ⟨%h3, HSI⟩
  ihave H := (read_whole s' (oLoc d) _) $$ [HSI Ho]
  · isplitl [Ho] <;> iassumption
  icases H with ⟨%h4, -⟩
  ipureintro; exact ⟨h1, h2, h3, h4⟩

/-- What a final state holds. -/
def QC : PUnit × MemSt nD τ sig (Elt F) → Prop := fun r =>
  (∀ d : Dev nD, r.2.mem (eLoc d) = m (eLoc d) ∧ r.2.mem (sLoc d) = m (sLoc d) ∧ r.2.mem (tLoc d) = m (tLoc d) ∧ r.2.mem (oLoc d) = outVal m d)
    ∧ r.2.sem = fun _ => 0

/-- Every weakly fair execution of the program ends, the result at `outVal`, the arguments as they were, every counter
    at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Mask
-- ==== Proof.RefValue.lean ====
/-
  The reference's value: where its scatter lands, its mask read at a row, its result read at an element, and that the
  kernel's result is the same where every seed is at least zero.
-/
module

public import proofs.«01_k».proof.Proof.Run
public import proofs.«01_k».proof.Defs
public import proofs.«01_k».proof.Proof.Gen.ReferenceIdeal
public import proofs.«01_k».proof.Proof.Gen.ReferenceIdeal.Run
public import proofs.«01_k».proof.Proof.Gen.Pre_seeds_nonneg
public import Idealize.ShloMosaic.Lib.ReduceAll
public import Idealize.ShloMosaic.Lib.WordCmp
public import Idealize.ShloMosaic.Lib.IdealHost
public import Idealize.ShloMosaic.Lib.ValueLayoutCasts
public import Idealize.ShloMosaic.Lib.Routing.OpsSet
public import Idealize.ShloMosaic.Lib.Routing.OpsPair

@[expose] public section

noncomputable section

namespace Cert.Mask.Ref

open Cert.ReferenceIdeal Cert.ReferenceIdeal.Gen
open Idealize.ShloMosaic

/-! ## The precondition -/

/-- The precondition read at a seed. -/
theorem seed_nonneg (E : S100000x512.Idx → Ideal .f32) (s : S15000.Idx → BitVec 32) (T : S1x512.Idx → Ideal .f32)
    (h : Cert.Pre_seeds_nonneg.fn (F := Ideal) E s T = fun _ => 1#1) (k : S15000.Idx) : 0 ≤ (s k).toInt := by
  haveI : Subsingleton Cert.Pre_seeds_nonneg.S_.Idx := ⟨fun a b => funext fun x => x.elim0⟩
  have e := Host.reduce_andi_all _ _ _ _ (fun a => a.elim0) (congrFun h fun a => a.elim0) k
  exact IntOp.cmpi_sge.1 e

/-! ## The scatter -/

/-- The seed words the scatter reads: a negative one moved up by the number of rows. -/
def words (s : S15000.Idx → BitVec 32) : S15000x1.Idx → BitVec 32 :=
  broadcastInDim S15000x1 ![0] bcast_S15000_S15000x1_0
    (select (cmpi .slt s (broadcastInDim S15000 ![] bcast_S_S15000 (constantI S_ 32 0#32)))
      (addi s (broadcastInDim S15000 ![] bcast_S_S15000 (constantI S_ 32 100000#32))) s)

/-- A seed that is not negative is scattered at itself. -/
theorem words_apply (s : S15000.Idx → BitVec 32) (hs : ∀ k, 0 ≤ (s k).toInt) (i : S15000x1.Idx) (k : S15000.Idx)
    (hk : (i 0).val = (k 0).val) : words s i = s k := by
  unfold words
  rw [Idealize.ShloMosaic.broadcastInDim_apply ![0] bcast_S15000_S15000x1_0 _ i k (by
    intro a
    obtain rfl := Fin.eq_zero a
    exact hk.symm)]
  show Scalar.select (IntOp.cmpi .slt (s k) 0#32) (IntOp.addi (s k) 100000#32) (s k) = s k
  unfold Scalar.select
  rw [if_neg]
  intro q
  have := IntOp.cmpi_slt.1 q
  have h0 := hs k
  simp at this
  omega

local notation "dS" => (scatter_S100000_S15000x1_S15000_n_0_0_1 : ScatterDims S100000 S15000x1 S15000)

/-- Update `k` of the scatter lands at row `ι` exactly when seed `k` is `ι`. -/
theorem lands (s : S15000.Idx → BitVec 32) (hs : ∀ k, 0 ≤ (s k).toInt) (k : S15000.Idx) (ι : S100000.Idx) :
    ScatterDims.resultIdx? dS k (words s) = some ι ↔ (s k).toNat = (ι 0).val := by
  have hw : ScatterDims.window dS k 0 = 0 := rfl
  have hst : ScatterDims.start dS k (words s) 0 = (s k).toInt := by
    have hm : (0 : Fin 1) ∈ ScatterDims.scatterDimsToOperandDims dS := List.mem_singleton.2 rfl
    unfold ScatterDims.start
    rw [dif_pos hm]
    exact congrArg BitVec.toInt (words_apply s hs _ k rfl)
  have hti : (s k).toInt = ((s k).toNat : Int) := by
    have h0 := hs k
    rw [BitVec.toInt_eq_toNat_cond] at h0 ⊢
    have := (s k).isLt
    split at h0 <;> rename_i hc
    · rw [if_pos hc]
    · omega
  rw [Routing.resultIdx?_eq_some]
  constructor
  · intro h
    have := h 0
    rw [hst, hw, hti] at this
    omega
  · intro h a
    obtain rfl := Fin.eq_zero a
    rw [hst, hw, hti, h]
    rfl

/-- The reference's mask. -/
def mask (s : S15000.Idx → BitVec 32) : S100000.Idx → Ideal .f32 :=
  Host.scatter dS (fun _ b => b) (broadcastInDim S100000 ![] bcast_S_S100000 (constant S_ .f32 0x3F800000#32)) (words s)
    (broadcastInDim S15000 ![] bcast_S_S15000 (constant S_ .f32 0x00000000#32))

open Classical in
/-- The reference's mask at a row: zero where a seed names the row, one elsewhere. -/
theorem mask_apply (s : S15000.Idx → BitVec 32) (hs : ∀ k, 0 ≤ (s k).toInt) (ι : S100000.Idx) :
    mask s ι = if ∃ k, (s k).toNat = (ι 0).val then (0 : EReal) else 1 := by
  by_cases h : ∃ k, (s k).toNat = (ι 0).val
  · rw [if_pos h]
    obtain ⟨k, hk⟩ := h
    exact Routing.scatter_set_hit dS _ _ _ ι (0 : EReal) (fun _ _ => Ideal.ofBits_zero_f32) k ((lands s hs k ι).2 hk)
  · rw [if_neg h]
    exact (Routing.scatter_set_miss dS _ _ _ ι fun k q => h ⟨k, (lands s hs k ι).1 q⟩).trans Ideal.ofBits_one_f32

/-! ## The result -/

/-- The reference's result. -/
def out (E : S100000x512.Idx → Ideal .f32) (s : S15000.Idx → BitVec 32) (T : S1x512.Idx → Ideal .f32) : S100000x512.Idx → Ideal .f32 :=
  addf (mulf E (broadcastInDim S100000x512 ![0, 1] bcast_S100000x1_S100000x512_0_1 (shapeCast S100000x1 (mask s) shapeCasts_S100000_S100000x1)))
    (mulf (broadcastInDim S100000x512 ![0, 1] bcast_S1x512_S100000x512_0_1 T)
      (broadcastInDim S100000x512 ![0, 1] bcast_S100000x1_S100000x512_0_1
        (subf (broadcastInDim S100000x1 ![] bcast_S_S100000x1 (constant S_ .f32 0x3F800000#32))
          (shapeCast S100000x1 (mask s) shapeCasts_S100000_S100000x1))))

/-- A column broadcast along its rows, read at an element. -/
theorem column_apply (x : S100000x1.Idx → Ideal .f32) (i : S100000x512.Idx) :
    broadcastInDim S100000x512 ![0, 1] bcast_S100000x1_S100000x512_0_1 x i = x (ValueIdx.ix2 (i 0) (0 : Fin 1)) :=
  Idealize.ShloMosaic.broadcastInDim_apply _ _ _ _ _ fun a => by
    match a with
    | ⟨0, _⟩ => rfl
    | ⟨1, _⟩ => rfl

/-- The token broadcast down the rows, read at an element. -/
theorem token_apply (x : S1x512.Idx → Ideal .f32) (i : S100000x512.Idx) :
    broadcastInDim S100000x512 ![0, 1] bcast_S1x512_S100000x512_0_1 x i = x (ValueIdx.ix2 (0 : Fin 1) (i 1)) :=
  Idealize.ShloMosaic.broadcastInDim_apply _ _ _ _ _ fun a => by
    match a with
    | ⟨0, _⟩ => rfl
    | ⟨1, _⟩ => rfl

/-- The reference's result at an element. -/
theorem out_apply (E : S100000x512.Idx → Ideal .f32) (s : S15000.Idx → BitVec 32) (T : S1x512.Idx → Ideal .f32) (i : S100000x512.Idx) :
    out E s T i = ((E i : EReal) * mask s (ValueIdx.ix1 (i 0)) + T (ValueIdx.ix2 (0 : Fin 1) (i 1)) * (1 - mask s (ValueIdx.ix1 (i 0))) : EReal) := by
  have hc : shapeCast S100000x1 (mask s) shapeCasts_S100000_S100000x1 (ValueIdx.ix2 (i 0) (0 : Fin 1)) = mask s (ValueIdx.ix1 (i 0)) :=
    ValueIdx.shapeCast_a_a1_apply _ _ _ _
  unfold out
  rw [ValueIdx.addf_apply, ValueIdx.mulf_apply, ValueIdx.mulf_apply, column_apply, column_apply, token_apply, ValueIdx.subf_apply, hc]
  have h1 : (broadcastInDim S100000x1 ![] bcast_S_S100000x1 (constant (F := Ideal) S_ .f32 0x3F800000#32) (ValueIdx.ix2 (i 0) (0 : Fin 1)) : EReal) = 1 :=
    Ideal.ofBits_one_f32
  rw [h1]

/-! ## The two results -/

/-- A row is named by a seed exactly when one of the two SparseCores meets such a seed. -/
theorem hit_iff (s : S15000.Idx → BitVec 32) (r : ℕ) : (∃ k : S15000.Idx, (s k).toNat = r) ↔ Hit s 0 r ∨ Hit s 1 r := by
  constructor
  · rintro ⟨k, hk⟩
    have hlt : (k 0).val < 15000 := (k 0).isLt
    by_cases h : (k 0).val < 7504
    · exact Or.inl ⟨k, by omega, by omega, hk⟩
    · exact Or.inr ⟨k, by omega, by omega, hk⟩
  · rintro (⟨k, -, -, hk⟩ | ⟨k, -, -, hk⟩) <;> exact ⟨k, hk⟩

theorem one_eq : (one : Ideal .f32) = (1 : EReal) := Ideal.ofBits_one_f32
theorem zero_eq : (zero : Ideal .f32) = (0 : EReal) := Ideal.ofBits_zero_f32

open Classical in
/-- The kernel's bit of a row: set exactly when a seed names the row. -/
theorem rowBit_eq (s : S15000.Idx → BitVec 32) (r : Fin 102400) :
    rowBit (F := Ideal) (maskVal s 0) (maskVal s 1) r = if ∃ k : S15000.Idx, (s k).toNat = r.val then 1#1 else 0#1 := by
  have e0 : (maskVal (F := Ideal) s 0 (ValueIdx.ix1 r) : EReal) = if Hit s 0 r.val then 0 else 1 :=
    if_congr Iff.rfl zero_eq one_eq
  have e1 : (maskVal (F := Ideal) s 1 (ValueIdx.ix1 r) : EReal) = if Hit s 1 r.val then 0 else 1 :=
    if_congr Iff.rfl zero_eq one_eq
  show Ideal.cmp .oeq ((maskVal (F := Ideal) s 0 (ValueIdx.ix1 r) : EReal) * (maskVal (F := Ideal) s 1 (ValueIdx.ix1 r) : EReal)) (zero : Ideal .f32) = _
  rw [e0, e1, zero_eq, if_congr (hit_iff s r.val) rfl rfl]
  by_cases h0 : Hit s 0 r.val <;> by_cases h1 : Hit s 1 r.val <;> simp [h0, h1, Ideal.cmp]

/-- Where every seed is at least zero the kernel's result is the reference's. -/
theorem blend_eq (E : S100000x512.Idx → Ideal .f32) (s : S15000.Idx → BitVec 32) (T : S1x512.Idx → Ideal .f32)
    (hs : ∀ k, 0 ≤ (s k).toInt) : blend (F := Ideal) E (maskVal s 0) (maskVal s 1) T = out E s T := by
  funext i
  rw [out_apply, mask_apply s hs]
  unfold blend
  rw [rowBit_eq]
  by_cases h : ∃ k : S15000.Idx, (s k).toNat = (i 0).val
  · rw [if_pos h, if_pos (show ∃ k, (s k).toNat = ((ValueIdx.ix1 (i 0) : S100000.Idx) 0).val from h)]
    refine (if_pos rfl).trans ?_
    rw [mul_zero, zero_add, sub_zero, mul_one]
  · rw [if_neg h, if_neg (show ¬ ∃ k, (s k).toNat = ((ValueIdx.ix1 (i 0) : S100000.Idx) 0).val from h)]
    refine (if_neg (by decide)).trans ?_
    have : (1 : EReal) - 1 = 0 := by
      rw [← EReal.coe_one, ← EReal.coe_sub, sub_self, EReal.coe_zero]
    rw [this, mul_zero, add_zero, mul_one]

end Cert.Mask.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_seeds_nonneg
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The two printings of the mask kernel are one function. -/
theorem mask_eq (i : Cert.KernelIdeal.grid0.Coords) (a2 : Memref Cert.KernelIdeal.sig .scVector .hbm Cert.KernelIdeal.S15000 .i32) :
    Cert.Kernel.cc0__mask_sc_body (F := Bits) i a2 = Cert.KernelIdeal.cc0__mask_sc_body (F := Bits) i a2 := rfl

/-- The two printings of the blend are one function. -/
theorem blend_eq (i : Cert.KernelIdeal.grid1.Coords) :
    Cert.Kernel.cc1__blend_body (F := Bits) i = Cert.KernelIdeal.cc1__blend_body (F := Bits) i := rfl

/-- The two printings have one table of kernel bodies. -/
theorem defs₀_eq : Cert.Kernel.defs₀ (F := Bits) = Cert.KernelIdeal.defs₀ (F := Bits) := by
  funext p ℓ a
  match p, ℓ, a with
  | .tc, ⟨0, _⟩, _ => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

theorem pcfgs_eq : Cert.Kernel.pcfgs (F := Bits) = Cert.KernelIdeal.pcfgs (F := Bits) := rfl

/-- The two printings of the kernel have one table of bodies. -/
theorem defs_eq : Cert.Kernel.defs (F := Bits) = Cert.KernelIdeal.defs (F := Bits) := by
  exact congrArg (fun D => Cert.KernelIdeal.sc.defs (Pipeline.defs Cert.KernelIdeal.pcfgs D)) defs₀_eq

/-- The two printings of the kernel have one set of threads. -/
theorem threads_eq : Cert.Kernel.threads (F := Bits) = Cert.KernelIdeal.threads (F := Bits) := rfl

/-- `Cert.quiescent_Kernel`: the kernel's run read at its arguments and counters. -/
theorem frame_kernel : Cert.quiescent_Kernel := by
  intro m ρ _
  rw [defs_eq, threads_eq]
  exact (θ_run (Cert.KernelIdeal.defs (F := Bits)) (Cert.KernelIdeal.threads (F := Bits)) ⟨m, fun _ => 0, ρ⟩).mono
    (fun _ (h : Cert.Mask.QC m _) => ⟨fun c => ⟨(h.1 c).1, (h.1 c).2.1, (h.1 c).2.2.1⟩, h.2⟩)
    (Cert.Mask.run_main (F := Bits) m ρ)

/-- `Cert.quiescent_KernelIdeal`: the same at the ideal values. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.Mask.run_main (F := Ideal) m ρ)

/-- `Cert.quiescent_ReferenceIdeal`: the reference's run read at its arguments; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- `Cert.algebraic_KernelIdeal_ReferenceIdeal_pre_seeds_nonneg`: the shared values are the kernel's blend and the seeds. -/
theorem value : Cert.algebraic_KernelIdeal_ReferenceIdeal_pre_seeds_nonneg := by
  intro m ρ m' ρ' hpre heq
  refine ⟨fun c => Cert.Mask.outVal m c, fun c => m (Cert.Mask.sLoc c), ?_, ?_⟩
  · exact (θ_run Cert.KernelIdeal.defs _ _).mono
      (fun _ h c => ⟨(h.1 c).2.2.2, (h.1 c).2.1, (h.1 c).1, (h.1 c).2.1, (h.1 c).2.2.1⟩) (Cert.Mask.run_main (F := Ideal) m ρ)
  · refine (θ_run Cert.ReferenceIdeal.defs _ _).mono (fun _ h c => ?_) (Cert.ReferenceIdeal.Value.run (F := Ideal) m' ρ')
    obtain ⟨e0, e1, e2⟩ := heq c
    obtain ⟨hv, h1, ha⟩ := h c
    refine ⟨hv.trans ?_, h1.trans e1, ha⟩
    refine Eq.trans (b := Cert.Mask.Ref.out (m (Cert.Mask.eLoc c)) (m (Cert.Mask.sLoc c)) (m (Cert.Mask.tLoc c))) ?_
      (Cert.Mask.Ref.blend_eq _ _ _ (Cert.Mask.Ref.seed_nonneg _ _ _ (hpre c))).symm
    rw [e0, e1, e2]
    rfl

theorem claim : Cert.Claim := ⟨Cert.Kernel.Gen.facts, Cert.KernelIdeal.Gen.facts, Cert.ReferenceIdeal.Gen.facts, Cert.Pre_seeds_nonneg.Gen.facts,
  frame_kernel, frame_ideal, fun m ρ _ => frame_ideal m ρ trivial, frame_reference, fun m ρ _ => frame_reference m ρ trivial, trivial, value⟩

end Cert.Proof

end
